-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_in_vocab_finite [hPre_in_vocab_finite : Cert.Pre_in_vocab_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab_finite [hPre_in_vocab_finite : Cert.Pre_in_vocab_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_vocab_finite [hKernelIdeal : Cert.KernelIdeal.Facts] [hPre_in_vocab_finite : Cert.Pre_in_vocab_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocab_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_vocab_finite [hReferenceIdeal : Cert.ReferenceIdeal.Facts] [hPre_in_vocab_finite : Cert.Pre_in_vocab_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_vocab_finite [hKernelIdeal : Cert.KernelIdeal.Facts] [hReferenceIdeal : Cert.ReferenceIdeal.Facts] [hPre_in_vocab_finite : Cert.Pre_in_vocab_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocab_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_vocab : Cert.Pre_in_vocab.Facts) (hPre_in_vocab_finite : Cert.Pre_in_vocab_finite.Facts),
    quiescent_Kernel (hKernel := hKernel) (hPre_in_vocab := hPre_in_vocab)
    ∧ quiescent_KernelIdeal (hKernelIdeal := hKernelIdeal) (hPre_in_vocab := hPre_in_vocab)
    ∧ quiescent_KernelIdeal_pre_in_vocab_finite (hKernelIdeal := hKernelIdeal) (hPre_in_vocab_finite := hPre_in_vocab_finite)
    ∧ quiescent_ReferenceIdeal (hReferenceIdeal := hReferenceIdeal)
    ∧ quiescent_ReferenceIdeal_pre_in_vocab_finite (hReferenceIdeal := hReferenceIdeal) (hPre_in_vocab_finite := hPre_in_vocab_finite)
    ∧ preserves_Kernel_KernelIdeal
    ∧ algebraic_KernelIdeal_ReferenceIdeal_pre_in_vocab_finite (hKernelIdeal := hKernelIdeal) (hReferenceIdeal := hReferenceIdeal) (hPre_in_vocab_finite := hPre_in_vocab_finite)
-- ==== Pre_in_vocab.lean ====
abbrev S4096x50 : Shape := ⟨2, ![4096, 50]⟩
abbrev S100000x64 : Shape := ⟨2, ![100000, 64]⟩
abbrev S3200x32 : Shape := ⟨2, ![3200, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x64 .f32) (main_arg2 : FVec F S3200x32 .f32) (main_arg3 : FVec F S32 .f32) (main_arg4 : FVec F S32x32 .f32) (main_arg5 : FVec F S32 .f32) (main_arg6 : FVec F S32x1 .f32) (main_arg7 : FVec F S1 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 1 := constantI S_ 1 1#1
  let main_v2 : IVec S_ 1 := (fun x v => Host.reduce IntOp.andi x v reducesTo_S4096x50_S_d0_1 h_S_) main_v1 main_c_0
  let main_c_1 : IVec S_ 32 := constantI S_ 32 100000#32
  let main_v3 : IVec S4096x50 32 := broadcastInDim S4096x50 ![] bcast_S_S4096x50 main_c_1
  let main_v4 : IVec S4096x50 1 := cmpi .slt main_arg0 main_v3
  let main_c_2 : IVec S_ 1 := constantI S_ 1 1#1
  let main_v5 : IVec S_ 1 := (fun x v => Host.reduce IntOp.andi x v reducesTo_S4096x50_S_d0_1 h_S_) main_v4 main_c_2
  let main_v6 : IVec S_ 1 := andi main_v2 main_v5
  main_v6
-- ==== Pre_in_vocab_finite.lean ====
abbrev S4096x50 : Shape := ⟨2, ![4096, 50]⟩
abbrev S100000x64 : Shape := ⟨2, ![100000, 64]⟩
abbrev S3200x32 : Shape := ⟨2, ![3200, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S3200x32 : S_.BroadcastsInDim S3200x32 (![] : Fin 0 → Fin S3200x32.rank)
  reducesTo_S3200x32_S_d0_1 : S3200x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg3 : FVec F S32 .f32) (main_arg4 : FVec F S32x32 .f32) (main_arg6 : FVec F S32x1 .f32) (main_v11 : IVec S_ 1) (main_v15 : IVec S_ 1) : IVec S_ 1 :=
  let main_v16 : IVec S_ 1 := andi main_v11 main_v15
  let main_v17 : FVec F S32 .f32 := Host.absf main_arg3
  let main_cst_6 : FVec F S_ .f32 := constant S_ .f32 0x7F800000#32
  let main_v18 : FVec F S32 .f32 := broadcastInDim S32 ![] bcast_S_S32 main_cst_6
  let main_v19 : IVec S32 1 := cmpf .olt main_v17 main_v18
  let main_c_7 : IVec S_ 1 := constantI S_ 1 1#1
  let main_v20 : IVec S_ 1 := (fun x v => Host.reduce IntOp.andi x v reducesTo_S32_S_d0 h_S_) main_v19 main_c_7
  let main_v21 : IVec S_ 1 := andi main_v16 main_v20
  let main_v22 : FVec F S32x32 .f32 := Host.absf main_arg4
  let main_cst_8 : FVec F S_ .f32 := constant S_ .f32 0x7F800000#32
  let main_v23 : FVec F S32x32 .f32 := broadcastInDim S32x32 ![] bcast_S_S32x32 main_cst_8
  let main_v24 : IVec S32x32 1 := cmpf .olt main_v22 main_v23
  let main_c_9 : IVec S_ 1 := constantI S_ 1 1#1
  let main_v25 : IVec S_ 1 := (fun x v => Host.reduce IntOp.andi x v reducesTo_S32x32_S_d0_1 h_S_) main_v24 main_c_9
  let main_v26 : IVec S_ 1 := andi main_v21 main_v25
  let main_v27 : FVec F S32x1 .f32 := Host.absf main_arg6
  let main_cst_10 : FVec F S_ .f32 := constant S_ .f32 0x7F800000#32
  let main_v28 : FVec F S32x1 .f32 := broadcastInDim S32x1 ![] bcast_S_S32x1 main_cst_10
  let main_v29 : IVec S32x1 1 := cmpf .olt main_v27 main_v28
  let main_c_11 : IVec S_ 1 := constantI S_ 1 1#1
  let main_v30 : IVec S_ 1 := (fun x v => Host.reduce IntOp.andi x v reducesTo_S32x1_S_d0_1 h_S_) main_v29 main_c_11
  let main_v31 : IVec S_ 1 := andi main_v26 main_v30
  main_v31

def fn {F : FTy → Type} [FloatOps F] (main_arg0 : IVec S4096x50 32) (main_arg1 : FVec F S100000x64 .f32) (main_arg2 : FVec F S3200x32 .f32) (main_arg3 : FVec F S32 .f32) (main_arg4 : FVec F S32x32 .f32) (main_arg5 : FVec F S32 .f32) (main_arg6 : FVec F S32x1 .f32) (main_arg7 : FVec F S1 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 1 := constantI S_ 1 1#1
  let main_v2 : IVec S_ 1 := (fun x v => Host.reduce IntOp.andi x v reducesTo_S4096x50_S_d0_1 h_S_) main_v1 main_c_0
  let main_c_1 : IVec S_ 32 := constantI S_ 32 100000#32
  let main_v3 : IVec S4096x50 32 := broadcastInDim S4096x50 ![] bcast_S_S4096x50 main_c_1
  let main_v4 : IVec S4096x50 1 := cmpi .slt main_arg0 main_v3
  let main_c_2 : IVec S_ 1 := constantI S_ 1 1#1
  let main_v5 : IVec S_ 1 := (fun x v => Host.reduce IntOp.andi x v reducesTo_S4096x50_S_d0_1 h_S_) main_v4 main_c_2
  let main_v6 : IVec S_ 1 := andi main_v2 main_v5
  let main_v7 : FVec F S100000x64 .f32 := Host.absf main_arg1
  let main_cst : FVec F S_ .f32 := constant S_ .f32 0x7F800000#32
  let main_v8 : FVec F S100000x64 .f32 := broadcastInDim S100000x64 ![] bcast_S_S100000x64 main_cst
  let main_v9 : IVec S100000x64 1 := cmpf .olt main_v7 main_v8
  let main_c_3 : IVec S_ 1 := constantI S_ 1 1#1
  let main_v10 : IVec S_ 1 := (fun x v => Host.reduce IntOp.andi x v reducesTo_S100000x64_S_d0_1 h_S_) main_v9 main_c_3
  let main_v11 : IVec S_ 1 := andi main_v6 main_v10
  let main_v12 : FVec F S3200x32 .f32 := Host.absf main_arg2
  let main_cst_4 : FVec F S_ .f32 := constant S_ .f32 0x7F800000#32
  let main_v13 : FVec F S3200x32 .f32 := broadcastInDim S3200x32 ![] bcast_S_S3200x32 main_cst_4
  let main_v14 : IVec S3200x32 1 := cmpf .olt main_v12 main_v13
  let main_c_5 : IVec S_ 1 := constantI S_ 1 1#1
  let main_v15 : IVec S_ 1 := (fun x v => Host.reduce IntOp.andi x v reducesTo_S3200x32_S_d0_1 h_S_) main_v14 main_c_5
  fn_part1 (F := F) main_arg3 main_arg4 main_arg6 main_v11 main_v15
-- ==== Kernel.lean ====
abbrev S4096x50 : Shape := ⟨2, ![4096, 50]⟩
abbrev S100000x64 : Shape := ⟨2, ![100000, 64]⟩
abbrev S3200x32 : Shape := ⟨2, ![3200, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x32 : Shape := ⟨2, ![1, 32]⟩
abbrev S1x1 : Shape := ⟨2, ![1, 1]⟩
abbrev S3200x1 : Shape := ⟨2, ![3200, 1]⟩
abbrev S50x64 : Shape := ⟨2, ![50, 64]⟩
abbrev S64x50 : Shape := ⟨2, ![64, 50]⟩
abbrev S_ : Shape := ⟨0, ![]⟩
abbrev S64x64 : Shape := ⟨2, ![64, 64]⟩
abbrev S10x10000x64 : Shape := ⟨3, ![10, 10000, 64]⟩
abbrev S1x2000x64 : Shape := ⟨3, ![1, 2000, 64]⟩
abbrev S10x2000x64 : Shape := ⟨3, ![10, 2000, 64]⟩
abbrev S2000x64 : Shape := ⟨2, ![2000, 64]⟩
abbrev S50 : Shape := ⟨1, ![50]⟩
abbrev S1x50 : Shape := ⟨2, ![1, 50]⟩
abbrev S32x128x50 : Shape := ⟨3, ![32, 128, 50]⟩
abbrev S32x50x128 : Shape := ⟨3, ![32, 50, 128]⟩
abbrev S6400000 : Shape := ⟨1, ![6400000]⟩
abbrev S4096 : Shape := ⟨1, ![4096]⟩
abbrev S50x128 : Shape := ⟨2, ![50, 128]⟩
abbrev S128 : Shape := ⟨1, ![128]⟩
abbrev S1x50x128 : Shape := ⟨3, ![1, 50, 128]⟩
abbrev S1x128 : Shape := ⟨2, ![1, 128]⟩
abbrev S1x16 : Shape := ⟨2, ![1, 16]⟩
abbrev S16 : Shape := ⟨1, ![16]⟩
abbrev S4096x1 : Shape := ⟨2, ![4096, 1]⟩

abbrev nBuf : Table → Nat
  | .hbm => 32
  | .local .tc .vmem => 32
  | .local .scVector .vmem => 3
  | _ => 0

abbrev bufTy : (tb : Table) → Fin (nBuf tb) → BufTy
  | .hbm, ⟨0, _⟩ => ⟨S4096x50, .i32⟩
  | .hbm, ⟨1, _⟩ => ⟨S100000x64, .f32⟩
  | .hbm, ⟨2, _⟩ => ⟨S3200x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x32, .f32⟩
  | .hbm, ⟨9, _⟩ => ⟨S1x32, .f32⟩
  | .hbm, ⟨10, _⟩ => ⟨S1x1, .f32⟩
  | .hbm, ⟨11, _⟩ => ⟨S3200x1, .f32⟩
  | .hbm, ⟨12, _⟩ => ⟨S1x1, .f32⟩
  | .hbm, ⟨13, _⟩ => ⟨S50x64, .f32⟩
  | .hbm, ⟨14, _⟩ => ⟨S64x50, .f32⟩
  | .hbm, ⟨15, _⟩ => ⟨S_, .i32⟩
  | .hbm, ⟨16, _⟩ => ⟨S_, .f32⟩
  | .hbm, ⟨17, _⟩ => ⟨S64x64, .f32⟩
  | .hbm, ⟨18, _⟩ => ⟨S10x10000x64, .f32⟩
  | .hbm, ⟨19, _⟩ => ⟨S10x10000x64, .f32⟩
  | .hbm, ⟨20, _⟩ => ⟨S_, .i32⟩
  | .hbm, ⟨21, _⟩ => ⟨S4096x50, .i32⟩
  | .hbm, ⟨22, _⟩ => ⟨S4096x50, .i32⟩
  | .hbm, ⟨23, _⟩ => ⟨S50, .i32⟩
  | .hbm, ⟨24, _⟩ => ⟨S1x50, .i32⟩
  | .hbm, ⟨25, _⟩ => ⟨S4096x50, .i32⟩
  | .hbm, ⟨26, _⟩ => ⟨S4096x50, .i32⟩
  | .hbm, ⟨27, _⟩ => ⟨S32x128x50, .i32⟩
  | .hbm, ⟨28, _⟩ => ⟨S32x50x128, .i32⟩
  | .hbm, ⟨29, _⟩ => ⟨S6400000, .f32⟩
  | .hbm, ⟨30, _⟩ => ⟨S4096, .f32⟩
  | .hbm, ⟨31, _⟩ => ⟨S4096x1, .f32⟩
  | .local .tc .vmem, ⟨0, _⟩ => ⟨S3200x32, .f32⟩
  | .local .tc .vmem, ⟨1, _⟩ => ⟨S32x32, .f32⟩
  | .local .tc .vmem, ⟨2, _⟩ => ⟨S32x1, .f32⟩
  | .local .tc .vmem, ⟨3, _⟩ => ⟨S1x32, .f32⟩
  | .local .tc .vmem, ⟨4, _⟩ => ⟨S1x32, .f32⟩
  | .local .tc .vmem, ⟨5, _⟩ => ⟨S1x1, .f32⟩
  | .local .tc .vmem, ⟨6, _⟩ => ⟨S3200x1, .f32⟩
  | .local .tc .vmem, ⟨7, _⟩ => ⟨S1x1, .f32⟩
  | .local .tc .vmem, ⟨8, _⟩ => ⟨S64x64, .f32⟩
  | .local .tc .vmem, ⟨9, _⟩ => ⟨S1x1, .f32⟩
  | .local .tc .vmem, ⟨10, _⟩ => ⟨S1x2000x64, .f32⟩
  | .local .tc .vmem, ⟨11, _⟩ => ⟨S1x2000x64, .f32⟩
  | .local .tc .vmem, ⟨12, _⟩ => ⟨S1x2000x64, .f32⟩
  | .local .tc .vmem, ⟨13, _⟩ => ⟨S1x2000x64, .f32⟩
  | .local .tc .vmem, ⟨14, _⟩ => ⟨S1x2000x64, .f32⟩
  | .local .tc .vmem, ⟨15, _⟩ => ⟨S1x2000x64, .f32⟩
  | .local .tc .vmem, ⟨16, _⟩ => ⟨S1x2000x64, .f32⟩
  | .local .tc .vmem, ⟨17, _⟩ => ⟨S1x2000x64, .f32⟩
  | .local .tc .vmem, ⟨18, _⟩ => ⟨S1x2000x64, .f32⟩
  | .local .tc .vmem, ⟨19, _⟩ => ⟨S1x2000x64, .f32⟩
  | .local .tc .vmem, ⟨20, _⟩ => ⟨S1x2000x64, .f32⟩
  | .local .tc .vmem, ⟨21, _⟩ => ⟨S1x2000x64, .f32⟩
  | .local .tc .vmem, ⟨22, _⟩ => ⟨S1x2000x64, .f32⟩
  | .local .tc .vmem, ⟨23, _⟩ => ⟨S1x2000x64, .f32⟩
  | .local .tc .vmem, ⟨24, _⟩ => ⟨S1x2000x64, .f32⟩
  | .local .tc .vmem, ⟨25, _⟩ => ⟨S1x2000x64, .f32⟩
  | .local .tc .vmem, ⟨26, _⟩ => ⟨S1x2000x64, .f32⟩
  | .local .tc .vmem, ⟨27, _⟩ => ⟨S1x2000x64, .f32⟩
  | .local .tc .vmem, ⟨28, _⟩ => ⟨S1x2000x64, .f32⟩
  | .local .tc .vmem, ⟨29, _⟩ => ⟨S1x2000x64, .f32⟩
  | .local .tc .vmem, ⟨30, _⟩ => ⟨S10x2000x64, .f32⟩
  | .local .tc .vmem, ⟨31, _⟩ => ⟨S10x2000x64, .f32⟩
  | .local .scVector .vmem, ⟨0, _⟩ => ⟨S50x128, .i32⟩
  | .local .scVector .vmem, ⟨1, _⟩ => ⟨S50x128, .f32⟩
  | .local .scVector .vmem, ⟨2, _⟩ => ⟨S128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | ⟨33, _⟩ => false
  | ⟨34, _⟩ => false
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v16_scv : Ref sig .scVector := ⟨.hbm, 28, rfl⟩
abbrev main_v17_scv : Ref sig .scVector := ⟨.hbm, 29, rfl⟩
abbrev main_v18_scv : Ref sig .scVector := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc1_sem12_1 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S3200x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3200x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_4 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_5 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_6 (i : grid1.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc1_transform_7 (i : grid1.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc1_transform_8 (i : grid1.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc1_transform_9 (i : grid1.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc1_transform_10 (i : grid1.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc1_transform_11 (i : grid1.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x2000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x2000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S10x2000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1274_r0 : BitVec 32 := 0#32
  let c0_i32_1275_r0 : BitVec 32 := 0#32
  ![v1.toNat, 0, 0]
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2174 : BitVec 32 := Scalar.muli v1 c128_i32
  ![v2174.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S100000x64 : Shape := ⟨2, ![100000, 64]⟩
abbrev S3200x32 : Shape := ⟨2, ![3200, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S4096x50x1 : Shape := ⟨3, ![4096, 50, 1]⟩
abbrev S1x1x1 : Shape := ⟨3, ![1, 1, 1]⟩
abbrev S4096x50x64 : Shape := ⟨3, ![4096, 50, 64]⟩
abbrev S4096x3200 : Shape := ⟨2, ![4096, 3200]⟩
abbrev S4096x32 : Shape := ⟨2, ![4096, 32]⟩
abbrev S1x32 : Shape := ⟨2, ![1, 32]⟩
abbrev S4096x1 : Shape := ⟨2, ![4096, 1]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x64, .f32⟩
  | .hbm, ⟨2, _⟩ => ⟨S3200x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S_, .i32⟩
  | .hbm, ⟨9, _⟩ => ⟨S4096x50, .i32⟩
  | .hbm, ⟨10, _⟩ => ⟨S4096x50, .i1⟩
  | .hbm, ⟨11, _⟩ => ⟨S_, .i32⟩
  | .hbm, ⟨12, _⟩ => ⟨S4096x50, .i32⟩
  | .hbm, ⟨13, _⟩ => ⟨S4096x50, .i32⟩
  | .hbm, ⟨14, _⟩ => ⟨S4096x50, .i32⟩
  | .hbm, ⟨15, _⟩ => ⟨S4096x50x1, .i32⟩
  | .hbm, ⟨16, _⟩ => ⟨S1, .i32⟩
  | .hbm, ⟨17, _⟩ => ⟨S_, .i32⟩
  | .hbm, ⟨18, _⟩ => ⟨S4096x50x1, .i32⟩
  | .hbm, ⟨19, _⟩ => ⟨S4096x50x1, .i1⟩
  | .hbm, ⟨20, _⟩ => ⟨S1x1x1, .i32⟩
  | .hbm, ⟨21, _⟩ => ⟨S4096x50x1, .i32⟩
  | .hbm, ⟨22, _⟩ => ⟨S4096x50x1, .i1⟩
  | .hbm, ⟨23, _⟩ => ⟨S4096x50x1, .i1⟩
  | .hbm, ⟨24, _⟩ => ⟨S_, .i1⟩
  | .hbm, ⟨25, _⟩ => ⟨S4096x50, .i1⟩
  | .hbm, ⟨26, _⟩ => ⟨S4096x50x64, .f32⟩
  | .hbm, ⟨27, _⟩ => ⟨S4096x50x64, .i1⟩
  | .hbm, ⟨28, _⟩ => ⟨S_, .f32⟩
  | .hbm, ⟨29, _⟩ => ⟨S4096x50x64, .f32⟩
  | .hbm, ⟨30, _⟩ => ⟨S4096x50x64, .f32⟩
  | .hbm, ⟨31, _⟩ => ⟨S4096x3200, .f32⟩
  | .hbm, ⟨32, _⟩ => ⟨S4096x32, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S1x32, .f32⟩
  | .hbm, ⟨38, _⟩ => ⟨S4096x32, .f32⟩
  | .hbm, ⟨39, _⟩ => ⟨S4096x32, .f32⟩
  | .hbm, ⟨40, _⟩ => ⟨S4096x1, .f32⟩
  | .hbm, ⟨41, _⟩ => ⟨S1x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_cst_0 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Bag.lean ====
/-
  The SparseCore kernel's body as a program of loops. The printed body is one straight line of several thousand
  statements; here it is the copy of the tile's index block, fifty gathers, fifty waits, eight chunks of sixteen
  lanes (each a running sum of fifty loads and one store) and the copy of the results, each family written once at a
  symbolic row or chunk. `bag_eq` says the two are the same program.
-/
module

public import proofs.«01_k».proof.Proof.Gen.KernelIdeal
public import proofs.«01_k».proof.Proof.Gen.KernelIdeal.Skeleton
public import Idealize.ShloMosaic.Lib.Pipeline.Regions

@[expose] public section

set_option maxRecDepth 16384

noncomputable section

namespace Cert.Proof.Bag

open Idealize.ShloMosaic Idealize.SL.Sem Cert.KernelIdeal Cert.KernelIdeal.Gen

variable {F : FTy → Type} [FloatOps F]

/-- Programs of the tile at the coordinates `i`. -/
abbrev TProg (F : FTy → Type) (i : grid2.Coords) (α : Type) :=
  Prog (TpuEff nD τ sig (Elt F) Λ₀ (.scVector ((i 0).castLE hcore2) ((i 1).castLE hsub2))) α

/-- Row `l` of a 50 × 128 scratch lies inside it. -/
theorem row_inb (l : Fin 50) : ∀ a, (![l.val, 0] : Fin 2 → Nat) a + S1x128.size a ≤ S50x128.size a := by
  intro a; fin_cases a
  · change l.val + 1 ≤ 50; omega
  · change 0 + 128 ≤ 128; omega

/-- Lanes `16 c …` of row `l` lie inside the 50 × 128 scratch. -/
theorem lane_inb (l : Fin 50) (c : Fin 8) : ∀ a, (![l.val, 16 * c.val] : Fin 2 → Nat) a + S1x16.size a ≤ S50x128.size a := by
  intro a; fin_cases a
  · change l.val + 1 ≤ 50; omega
  · change 16 * c.val + 16 ≤ 128; omega

/-- Lanes `16 c …` lie inside the 128 results. -/
theorem res_inb (c : Fin 8) : ∀ a, (![16 * c.val] : Fin 1 → Nat) a + S16.size a ≤ S128.size a := by
  intro a; fin_cases a
  change 16 * c.val + 16 ≤ 128; omega

/-- The tile's index block in HBM. -/
abbrev idxM (i : grid2.Coords) : Memref sig .scVector .hbm S50x128 .i32 :=
  ((Memref.whole main_v16_scv : Memref sig .scVector .hbm S32x50x128 .i32).slice (Rect.unit (s := S32x50x128) (k2_off1 i) S1x50x128.size (k2_off1_inb i)) (fun _ => rfl)).squeeze S50x128 squeezes_S1x50x128_S50x128

/-- The tile's block of results in HBM. -/
abbrev outM (i : grid2.Coords) : Memref sig .scVector .hbm S128 .f32 :=
  (Memref.whole main_v18_scv : Memref sig .scVector .hbm S4096 .f32).slice (Rect.unit (s := S4096) (k2_off2 i) S128.size (k2_off2_inb i)) (fun _ => rfl)

/-- The table of words the gathers read. -/
abbrev srcM : Memref sig .scVector .hbm S6400000 .f32 :=
  (Memref.whole main_v17_scv : Memref sig .scVector .hbm S6400000 .f32).slice (Rect.unit (s := S6400000) ![0] S6400000.size inb_S6400000_S6400000_0) (fun _ => rfl)

/-- Row `l` of the gathered words. -/
abbrev dstM (l : Fin 50) : Memref sig .scVector .vmem S128 .f32 :=
  ((Memref.whole cc2_scratch1 : Memref sig .scVector .vmem S50x128 .f32).slice (Rect.unit (s := S50x128) ![l.val, 0] S1x128.size (row_inb l)) (fun _ => rfl)).squeeze S128 squeezes_S1x128_S128

/-- Row `l` of the tile's indices. -/
abbrev offM (l : Fin 50) : Memref sig .scVector .vmem S128 .i32 :=
  ((Memref.whole cc2_scratch0 : Memref sig .scVector .vmem S50x128 .i32).slice (Rect.unit (s := S50x128) ![l.val, 0] S1x128.size (row_inb l)) (fun _ => rfl)).squeeze S128 squeezes_S1x128_S128

/-- The copy of the tile's index block into its scratch, then `K`. -/
def copyIn (i : grid2.Coords) (K : TProg F i PUnit) : TProg F i PUnit :=
  Prog.lift (.enqueueDma (idxM i) (.here (Memref.whole cc2_scratch0)) (.dma cc2_scoped0.sem) ((View.wordExact_bits rfl).reshape _ _) (Memref.isWhole_whole cc2_scratch0).wordExact ⟨Or.inl rfl, trivial⟩) >>= fun _ =>
  Prog.lift (.waitDma2 cc2_scoped0.sem (idxM i) (Memref.whole cc2_scratch0) ((View.wordExact_bits rfl).reshape _ _) (Memref.isWhole_whole cc2_scratch0).wordExact) >>= fun _ => K

/-- The gather of row `l`, then `K`. -/
def gatherRow (i : grid2.Coords) (l : Fin 50) (K : TProg F i PUnit) : TProg F i PUnit :=
  SparseCore.enqueueIndirectGather rfl srcM (dstM l) gathers_S6400000_S128 (offM l) rfl cc2_scratch3.sem (View.wordExact_bits rfl) rfl (Or.inl rfl) >>= fun _ => K

/-- The wait for row `l`, then `K`. -/
def waitRow (i : grid2.Coords) (l : Fin 50) (K : TProg F i PUnit) : TProg F i PUnit :=
  SparseCore.waitIndirectGather cc2_scratch3.sem srcM (dstM l) (View.wordExact_bits rfl) ((View.wordExact_bits rfl).reshape _ _) >>= fun _ => K

/-- The gathers of rows `l … l + n`. -/
def gathers (i : grid2.Coords) (K : TProg F i PUnit) : (n l : Nat) → l + n = 50 → TProg F i PUnit
  | 0, _, _ => K
  | n + 1, l, h => gatherRow i ⟨l, by omega⟩ (gathers i K n (l + 1) (by omega))

/-- The waits for rows `l … l + n`. -/
def waits (i : grid2.Coords) (K : TProg F i PUnit) : (n l : Nat) → l + n = 50 → TProg F i PUnit
  | 0, _, _ => K
  | n + 1, l, h => waitRow i ⟨l, by omega⟩ (waits i K n (l + 1) (by omega))

/-- The load of chunk `c` of row `l`, then `K` at what it read. -/
def loadLane (i : grid2.Coords) (l : Fin 50) (c : Fin 8) (K : Vec F S1x16 .f32 → TProg F i PUnit) : TProg F i PUnit :=
  Prog.lift (.load (Memref.whole cc2_scratch1 : Memref sig .scVector .vmem S50x128 .f32) (Rect.unit (s := S50x128) ![l.val, 16 * c.val] S1x16.size (lane_inb l c)).toLoadRect (View.loadsAt_vmem h_S1x16)) >>= K

/-- The running sum of chunk `c` over rows `l … l + n`, from `acc`. -/
def sums (i : grid2.Coords) (c : Fin 8) (K : FVec F S16 .f32 → TProg F i PUnit) :
    (n l : Nat) → l + n = 50 → FVec F S16 .f32 → TProg F i PUnit
  | 0, _, _, acc => K acc
  | n + 1, l, h, acc => loadLane i ⟨l, by omega⟩ c fun v =>
      sums i c K n (l + 1) (by omega) (addf acc (shapeCast S16 v shapeCasts_S1x16_S16))

/-- A chunk's result from its sum. -/
def squash (acc : FVec F S16 .f32) : FVec F S16 .f32 :=
  divf (broadcast S16 (Scalar.ofBits .f32 0x3F800000#32 : F .f32))
    (addf (broadcast S16 (Scalar.ofBits .f32 0x3F800000#32 : F .f32))
      (exp (subf (broadcast S16 (Scalar.ofBits .f32 0x00000000#32 : F .f32)) acc)))

/-- The store of chunk `c` of the results (its old contents read first, unused), then `K`. -/
def storeLane (i : grid2.Coords) (c : Fin 8) (w : FVec F S16 .f32) (K : TProg F i PUnit) : TProg F i PUnit :=
  Prog.lift (.load (Memref.whole cc2_scratch2 : Memref sig .scVector .vmem S128 .f32) (Rect.unit (s := S128) ![16 * c.val] S16.size (res_inb c)).toLoadRect (View.loadsAt_vmem h_S16)) >>= fun _ =>
  Prog.lift (.store (Memref.whole cc2_scratch2 : Memref sig .scVector .vmem S128 .f32) (Rect.unit (s := S128) ![16 * c.val] S16.size (res_inb c)) (shapeCast S16 w shapeCasts_S16_S16) Finset.univ (View.stores_vmem_bits_univ h_S16 rfl) (.inl rfl)) >>= fun _ => K

/-- Chunk `c`: the sum over the fifty rows, squashed and stored. -/
def chunk (i : grid2.Coords) (c : Fin 8) (K : TProg F i PUnit) : TProg F i PUnit :=
  loadLane i 0 c fun v => sums i c (fun acc => storeLane i c (squash acc) K) 49 1 rfl (shapeCast S16 v shapeCasts_S1x16_S16)

/-- The chunks `c … c + n`. -/
def chunks (i : grid2.Coords) (K : TProg F i PUnit) : (n c : Nat) → c + n = 8 → TProg F i PUnit
  | 0, _, _ => K
  | n + 1, c, h => chunk i ⟨c, by omega⟩ (chunks i K n (c + 1) (by omega))

/-- The copy of the results out. -/
def copyOut (i : grid2.Coords) : TProg F i PUnit :=
  Prog.lift (.enqueueDma (Memref.whole cc2_scratch2 : Memref sig .scVector .vmem S128 .f32) (.here (outM i)) (.dma cc2_scoped1.sem) (Memref.isWhole_whole cc2_scratch2).wordExact (View.wordExact_bits rfl) ⟨Or.inl rfl, trivial⟩) >>= fun _ =>
  Prog.lift (.waitDma2 cc2_scoped1.sem (Memref.whole cc2_scratch2 : Memref sig .scVector .vmem S128 .f32) (outM i) (Memref.isWhole_whole cc2_scratch2).wordExact (View.wordExact_bits rfl)) >>= fun _ => pure ⟨⟩

/-- The whole body. -/
def bag (i : grid2.Coords) : TProg F i PUnit :=
  copyIn i (gathers i (waits i (chunks i (copyOut i) 8 0 rfl) 50 0 rfl) 50 0 rfl)

/-- The printed body is the body of loops. -/
theorem bag_eq (i : grid2.Coords) :
    cc2__sc_bag (F := F) i (Memref.whole main_v16_scv) (Memref.isWhole_whole _) (Memref.whole main_v17_scv) (Memref.isWhole_whole _) (Memref.whole main_v18_scv) (Memref.isWhole_whole _) (Memref.whole cc2_scratch0) (Memref.isWhole_whole _) (Memref.whole cc2_scratch1) (Memref.isWhole_whole _) (Memref.whole cc2_scratch2) (Memref.isWhole_whole _) cc2_scratch3 cc2_scoped0 cc2_scoped1
      = bag (F := F) i := by
  chain_rfl

end Cert.Proof.Bag

end
-- ==== Proof.Setup.lean ====
/-
  The set-up of the run of the whole program: the program as the launch theorem sees it, the resource algebra (the
  handshakes' rounds, the TensorCore pipelines' rounds, the transfers' counters), the arrays the SparseCore call
  works on, and what each of its tiles leaves.
-/
module

public import proofs.«01_k».proof.Proof.Bag
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.StableHlo.Run
public import Idealize.ShloMosaic.Lib.Pipeline.Kit
public import Idealize.ShloMosaic.Lib.Tactic
public import Idealize.ShloMosaic.Lib.ValueIdxCore

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds, in the machine's algebra. -/
abbrev EP : Emb UP (MT nD τ sig (HIx 1) (Elt F) ℕ UU ℕ) := (Emb.inl : Emb UP (UP × Counters)).trans embR

/-! ## The arrays of the SparseCore call -/

abbrev iLoc (d : Dev nD) : Loc nD τ sig := (SparseCore.T d).loc main_v16
abbrev pLoc (d : Dev nD) : Loc nD τ sig := (SparseCore.T d).loc main_v17
abbrev oLoc (d : Dev nD) : Loc nD τ sig := (SparseCore.T d).loc main_v18

abbrev cV (i : grid2.Coords) : Fin τ.nSC := (i 0).castLE hcore2
abbrev jV (i : grid2.Coords) : Fin τ.nSub := (i 1).castLE hsub2
/-- The tile at the coordinates `i`. -/
abbrev tV (d : Dev nD) (i : grid2.Coords) : Thread nD τ := V d (cV i) (jV i)
/-- The block of the arrays the tile at `i` works on. -/
def wid (i : grid2.Coords) : Fin 32 := ⟨2 * (i 1).val + (i 0).val, by
  have h0 : (i 0).val < 2 := (i 0).isLt
  have h1 : (i 1).val < 16 := (i 1).isLt
  omega⟩

/-- The tile's coordinates from its SparseCore's and its own number. -/
def coordsV (c : Fin (grid2.bound 0)) (s : Fin (grid2.bound 1)) : grid2.Coords :=
  fun | 0 => c | 1 => s | ⟨_ + 2, h⟩ => absurd h (Nat.not_lt.2 (Nat.le_add_left _ _))

/-- Word `n` of the flat table. -/
def wordAt (fp : S6400000.Idx → F .f32) (n : ℕ) : F .f32 := fp (ix1 ⟨n % 6400000, Nat.mod_lt _ (by decide)⟩)

variable [FloatOps F]

/-- The running sum of the fifty words `g 0 … g 49`, from the left. -/
def sumUpTo (g : ℕ → F .f32) : ℕ → F .f32
  | 0 => g 0
  | n + 1 => FloatOps.addf (sumUpTo g n) (g (n + 1))

/-- The sigmoid of one word as the kernel computes it. -/
def sig1 (x : F .f32) : F .f32 :=
  FloatOps.divf (Scalar.ofBits .f32 0x3F800000#32)
    (FloatOps.addf (Scalar.ofBits .f32 0x3F800000#32) (FloatOps.exp (FloatOps.subf (Scalar.ofBits .f32 0x00000000#32) x)))

/-- The index word of row `l`, lane `j` in block `w`. -/
def idxWord (fi : S32x50x128.Idx → BitVec 32) (w : Fin 32) (l : ℕ) (j : Fin 128) : ℕ :=
  (fi (ix3 w (⟨l % 50, Nat.mod_lt _ (by decide)⟩ : Fin 50) j)).toNat

/-- One result of the SparseCore call: lane `j` of block `w`. -/
def bagVal (fi : S32x50x128.Idx → BitVec 32) (fp : S6400000.Idx → F .f32) (w : Fin 32) (j : Fin 128) : F .f32 :=
  sig1 (sumUpTo (fun l => wordAt fp (idxWord fi w l j)) 49)

/-- All results of the SparseCore call. -/
def bagOut (fi : S32x50x128.Idx → BitVec 32) (fp : S6400000.Idx → F .f32) : S4096.Idx → F .f32 := fun x =>
  bagVal fi fp ⟨(x 0).val / 128, by have h : (x 0).val < 4096 := (x 0).isLt; omega⟩ ⟨(x 0).val % 128, Nat.mod_lt _ (by decide)⟩

end Cert.Proof

end
-- ==== Proof.Gather.lean ====
/-
  The fifty gathers of a tile. Each is a stream of 128 one-word transfers, all on one semaphore: the 6400 transfers are
  one counted batch, transfer `128 l + j` delivering word `j` of row `l`.
-/
module

public import proofs.«01_k».proof.Proof.Setup

@[expose] public section

set_option maxRecDepth 16384

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

/-! ## Where the views' elements lie -/

theorem row_reshape (h : S128.numel = S1x128.numel) (x : S128.Idx) : Shape.reshapeEquiv h x = (ix2 (0 : Fin 1) (x 0) : S1x128.Idx) := by
  refine (Shape.reshapeEquiv_cons_one h x).trans ?_
  funext a
  match a with
  | ⟨0, _⟩ => rfl
  | ⟨1, _⟩ => rfl

theorem row_rect (l : Fin 50) (j : Fin 128) :
    (Rect.unit (s := S50x128) ![l.val, 0] S1x128.size (row_inb l)).emb (ix2 (0 : Fin 1) j : S1x128.Idx) = (ix2 l j : S50x128.Idx) := by
  funext a
  apply Fin.ext
  match a with
  | ⟨0, _⟩ => change l.val + 1 * 0 = l.val; omega
  | ⟨1, _⟩ => change 0 + 1 * j.val = j.val; omega

theorem dst_emb (l : Fin 50) (x : S128.Idx) : (dstM l).view.emb x = (ix2 l (x 0) : S50x128.Idx) := by
  change (Rect.unit (s := S50x128) ![l.val, 0] S1x128.size (row_inb l)).emb (Shape.reshapeEquiv _ x) = _
  exact (congrArg _ (row_reshape _ x)).trans (row_rect l (x 0))

theorem off_emb (l : Fin 50) (x : S128.Idx) : (offM l).view.emb x = (ix2 l (x 0) : S50x128.Idx) := by
  change (Rect.unit (s := S50x128) ![l.val, 0] S1x128.size (row_inb l)).emb (Shape.reshapeEquiv _ x) = _
  exact (congrArg _ (row_reshape _ x)).trans (row_rect l (x 0))

theorem src_emb (x : S6400000.Idx) : (srcM).view.emb x = x := by
  change (Rect.unit (s := S6400000) ![0] S6400000.size inb_S6400000_S6400000_0).emb x = x
  funext a
  apply Fin.ext
  match a with
  | ⟨0, _⟩ => change 0 + 1 * (x 0).val = (x 0).val; omega

/-- Word `j` of row `l`, as the stream's row view names it: its one element. -/
theorem dst_row_emb (l : Fin 50) (j : Fin 128) (x : (S128.rowShape gathers_S6400000_S128.axis').Idx) :
    ((dstM l).view.slice (S128.rowRect gathers_S6400000_S128.axis' j)).emb x = (ix2 l j : S50x128.Idx) := by
  refine (dst_emb l _).trans ?_
  refine congrArg (fun k : Fin 128 => (ix2 l k : S50x128.Idx)) ?_
  exact Shape.rowRect_emb_axis _ j x

/-- So it selects that word alone. -/
theorem dst_row_set (l : Fin 50) (j : Fin 128) :
    ((dstM l).view.slice (S128.rowRect gathers_S6400000_S128.axis' j)).set = ({ix2 l j} : Finset S50x128.Idx) := by
  ext y
  simp only [View.set, Finset.mem_map, Finset.mem_univ, true_and, Finset.mem_singleton]
  constructor
  · rintro ⟨x, rfl⟩; exact dst_row_emb l j x
  · rintro rfl
    exact ⟨fun a => ⟨0, by match a with | ⟨0, _⟩ => exact Nat.one_pos⟩, dst_row_emb l j _⟩

/-! ## The batch's transfers -/

/-- The word transfer `n` moves. -/
def entryOf (n : Fin 6400) : S50x128.Idx :=
  ix2 (⟨n.val / 128, by omega⟩ : Fin 50) (⟨n.val % 128, Nat.mod_lt _ (by decide)⟩ : Fin 128)

/-- The transfer of word `j` of row `l`. -/
def trOf (l : Fin 50) (j : Fin 128) : Fin 6400 := ⟨128 * l.val + j.val, by omega⟩

theorem entryOf_trOf (l : Fin 50) (j : Fin 128) : entryOf (trOf l j) = ix2 l j := by
  have h1 : (128 * l.val + j.val) / 128 = l.val := by omega
  have h2 : (128 * l.val + j.val) % 128 = j.val := by omega
  unfold entryOf trOf
  simp only [h1, h2]

theorem entryOf_bijective : Function.Bijective entryOf := by
  constructor
  · intro a b h
    have h0 := congrArg Fin.val (congrFun h 0)
    have h1 := congrArg Fin.val (congrFun h 1)
    change a.val / 128 = b.val / 128 at h0
    change a.val % 128 = b.val % 128 at h1
    exact Fin.ext (by omega)
  · intro y
    refine ⟨trOf (y 0) (y 1), ?_⟩
    exact (entryOf_trOf (y 0) (y 1)).trans (ValueIdx.eq_ix2 (n0 := 50) (n1 := 128) y).symm

section Batch

variable (d : Dev nD) (i : grid2.Coords)
variable (f1 : Buf (Elt F) ((tV d i).loc cc2_scratch1)) (fo : Buf (Elt F) ((tV d i).loc cc2_scratch0))
variable (fp : Buf (Elt F) (pLoc d)) (q : PosShare TreeShare)

/-- What the gathers leave: word `y` is the table's word the index at `y` names. -/
def gathered : Buf (Elt F) ((tV d i).loc cc2_scratch1) := fun y => wordAt fp (BitVec.toNat (fo y))

/-- What one transfer is issued with: its word, its index, a piece of the share of the table. -/
def heldT (f : Buf (Elt F) ((tV d i).loc cc2_scratch1)) (n : Fin 6400) : sProp 𝕄 :=
  iprop(((tV d i).loc cc2_scratch1 ↦[({entryOf n} : Finset S50x128.Idx)]{fullShare} f)
    ∗ ((tV d i).loc cc2_scratch0 ↦[({entryOf n} : Finset S50x128.Idx)]{fullShare} fo)
    ∗ (pLoc d ↦[(srcM).view.set]{pieceOf q 6400 (by decide) n} fp))

instance heldT_storable (f : Buf (Elt F) ((tV d i).loc cc2_scratch1)) (n : Fin 6400) :
    Storable (upEmb : UEmb _ 𝕄) (heldT d i fo fp q f n) := by unfold heldT; infer_instance

/-- All of them together are the two scratch buffers and the share of the table. -/
theorem heldT_all (f : Buf (Elt F) ((tV d i).loc cc2_scratch1)) :
    (bigSep Finset.univ (heldT d i fo fp q f) : sProp 𝕄)
      = iprop(((tV d i).loc cc2_scratch1 ↦{fullShare} f) ∗ ((tV d i).loc cc2_scratch0 ↦{fullShare} fo)
          ∗ (pLoc d ↦[(srcM).view.set]{q} fp)) := by
  unfold heldT
  rw [bigSep_sep', bigSep_sep', ← pointsTo_piecesOf]
  have h1 := pointsTo_entries (Ix := HIx 1) (Name := ℕ) (U := UU) (Lvl := ℕ) (tV d i) (Memref.whole cc2_scratch1 : Memref sig .scVector .vmem S50x128 .f32).view entryOf entryOf_bijective fullShare f
  have h0 := pointsTo_entries (Ix := HIx 1) (Name := ℕ) (U := UU) (Lvl := ℕ) (tV d i) (Memref.whole cc2_scratch0 : Memref sig .scVector .vmem S50x128 .i32).view entryOf entryOf_bijective fullShare fo
  simp only [Memref.view_whole, View.set_whole] at h0 h1
  congr 1
  · exact h1.symm
  · congr 1
    exact h0.symm

/-- The batch's state with the first `k` transfers issued and `u` units waited for. -/
abbrev GB (k u : ℕ) : sProp 𝕄 :=
  Transfers.Batch countersEmb (tV d i) (.dma cc2_scratch3.sem) (default : HIx 1) 32 (heldT d i fo fp q (gathered d i fo fp)) k u

theorem sep_emp_left' (A : sProp 𝕄) : A = iprop(emp ∗ A) := by
  have h1 : A ⊢ iprop(emp ∗ A) := by
    iintro H; isplitr; · iempintro
    iexact H
  have h2 : iprop(emp ∗ A) ⊢ A := by iintro ⟨-, H⟩; iexact H
  exact BI.Entails.antisymm h1 h2

theorem sep_assoc_eq (A B C : sProp 𝕄) : iprop(A ∗ B ∗ C) = iprop((A ∗ B) ∗ C) := by
  have h1 : iprop(A ∗ B ∗ C) ⊢ iprop((A ∗ B) ∗ C) := by
    iintro ⟨H1, H2, H3⟩; isplitr [H3]
    · isplitl [H1] <;> iassumption
    · iexact H3
  have h2 : iprop((A ∗ B) ∗ C) ⊢ iprop(A ∗ B ∗ C) := by
    iintro ⟨⟨H1, H2⟩, H3⟩; isplitl [H1]
    · iexact H1
    · isplitl [H2] <;> iassumption
  exact BI.Entails.antisymm h1 h2

/-- The next `m` transfers, apart from the later ones. -/
theorem pending_block (Φ : Fin 6400 → sProp 𝕄) : ∀ (m k : ℕ) (h : k + m ≤ 6400),
    bigSep (Transfers.pending k) Φ = iprop((bigSep Finset.univ fun j : Fin m => Φ ⟨k + j.val, by omega⟩) ∗ bigSep (Transfers.pending (k + m)) Φ)
  | 0, k, h => by
    rw [Finset.univ_eq_empty, bigSep_empty, Nat.add_zero]
    exact sep_emp_left' _
  | m + 1, k, h => by
    have ih := pending_block Φ m (k + 1) (by omega)
    rw [Transfers.bigSep_pending_step Φ k (by omega), ih, bigSep_univ_succ]
    have e : (Transfers.pending (k + 1 + m) : Finset (Fin 6400)) = Transfers.pending (k + (m + 1)) := by
      rw [show k + 1 + m = k + (m + 1) by omega]
    rw [e]
    have e2 : ∀ (H : ∀ j : Fin m, k + 1 + j.val < 6400) (H' : ∀ j : Fin m, k + j.succ.val < 6400),
        (bigSep Finset.univ fun j : Fin m => Φ ⟨k + 1 + j.val, H j⟩) = bigSep Finset.univ fun j : Fin m => Φ ⟨k + j.succ.val, H' j⟩ := by
      intro H H'
      refine bigSep_congr fun j _ => congrArg Φ (Fin.ext ?_)
      simp only [Fin.val_succ]; omega
    rw [e2 _ (fun j => by have := j.isLt; simp only [Fin.val_succ]; omega)]
    exact sep_assoc_eq _ _ _

/-- Entry `j` of a list of 128 is at coordinate `j`. -/
theorem entry_coord (j : Fin 128) : (S128.rowMajor.symm (j.cast (rfl : 128 = S128.numel))) 0 = j := by
  have h : S128.rowMajor (ix1 j) = j.cast (rfl : 128 = S128.numel) := by
    apply Fin.ext
    exact Shape.rowMajor_val_one (d := ![128]) (ix1 j)
  have h2 : S128.rowMajor.symm (j.cast (rfl : 128 = S128.numel)) = (ix1 j : S128.Idx) := (Equiv.symm_apply_eq _).mpr h.symm
  exact congrFun h2 0

/-- The index list of row `l`, read at entry `k`. -/
theorem off_word (l : Fin 50) (x : S128.Idx) : (offM l).view.read (Elt F) fo x = fo (ix2 l (x 0) : S50x128.Idx) := by
  rw [View.read_apply, off_emb]; rfl

/-- Word `j` of row `l`, the one-element view a transfer writes. -/
abbrev wordV (l : Fin 50) (j : Fin 128) : View sig .scVector .vmem (S128.rowShape gathers_S6400000_S128.axis') .f32 :=
  (dstM l).view.slice (S128.rowRect gathers_S6400000_S128.axis' j)

/-- Writing it with the word its index names leaves what the gathers leave there. -/
theorem write_word (l : Fin 50) (j : Fin 128) (w : (S128.rowShape gathers_S6400000_S128.axis').Idx → F .f32)
    (hw : ∀ x, w x = wordAt fp (BitVec.toNat (fo (ix2 l j : S50x128.Idx)))) (y : S50x128.Idx) (hy : y = ix2 l j) :
    (wordV l j).write (Elt F) f1 w Finset.univ y = gathered d i fo fp y := by
  let x : (S128.rowShape gathers_S6400000_S128.axis').Idx := fun a => ⟨0, by match a with | ⟨0, _⟩ => exact Nat.one_pos⟩
  have hx : (wordV l j).emb x = y := (dst_row_emb l j x).trans hy.symm
  refine (congrArg ((wordV l j).write (Elt F) f1 w Finset.univ) hx.symm).trans ?_
  refine (View.write_emb_of_mem (v := wordV l j) f1 w (Finset.mem_univ x)).trans ?_
  refine (hw x).trans ?_
  subst hy; rfl

/-- The word a row index names, read at the one-element shape. -/
theorem src_word (r : Fin 6400000) (x : (S128.rowShape gathers_S6400000_S128.axis').Idx) :
    (srcM).view.read (Elt F) fp (gathers_S6400000_S128.rowIdx r x) = wordAt fp r.val := by
  refine (congrArg fp (src_emb _)).trans ?_
  unfold wordAt
  refine congrArg fp ?_
  funext a
  match a with
  | ⟨0, _⟩ =>
    refine (Shape.Gathers.rowIdx_axis gathers_S6400000_S128 r x).trans ?_
    exact Fin.ext (Nat.mod_eq_of_lt r.isLt).symm

set_option maxHeartbeats 1000000 in
/-- The gather of row `l`: the batch's next 128 transfers issued. -/
theorem wp_gatherRow (hin : ∀ y, BitVec.toNat (fo y) < 6400000) (l : Fin 50) (K : TProg F i PUnit) (Q : PUnit → sProp 𝕄) :
    iprop(GB d i fo fp q (128 * l.val) 0 ∗ bigSep (Transfers.pending (128 * l.val)) (heldT d i fo fp q f1))
      ⊢ iprop((iprop(GB d i fo fp q (128 * l.val + 128) 0 ∗ bigSep (Transfers.pending (128 * l.val + 128)) (heldT d i fo fp q f1))
            -∗ wp frame (wpE (defs₀ (F := F)) 𝒱₀ (tV d i) none) Set.univ K Q)
          -∗ wp frame (wpE (defs₀ (F := F)) 𝒱₀ (tV d i) none) Set.univ (gatherRow i l K) Q) := by
  have hl : 128 * l.val + 128 ≤ 6400 := by omega
  have hin' : ∀ x, ((offM l).view.read (Elt F) fo x).toNat < S6400000.size gathers_S6400000_S128.axis := fun x => by
    rw [off_word]; exact hin _
  let fam : Fin 128 → BitVec 32 → Option (RowDma τ sig (Elt F) (tV d i).2 cc2_scratch3.sem) := fun j w =>
    (SparseCore.rowOf (F := F) (S6400000.size gathers_S6400000_S128.axis) w).map
      (SparseCore.gatherRow (tV d i) srcM (dstM l) gathers_S6400000_S128 cc2_scratch3.sem (View.wordExact_bits rfl) rfl (Or.inl rfl) (by decide) j)
  let S : Stream nD τ sig (Elt F) := Stream.issued (tV d i) (offM l).view (o := 128) rfl cc2_scratch3.sem fam 0
  let r : Fin 128 → Fin 6400000 := SparseCore.rows ((offM l).view.read (Elt F) fo) rfl hin'
  let rd : Fin 128 → RowDma τ sig (Elt F) (tV d i).2 cc2_scratch3.sem := fun j =>
    SparseCore.gatherRow (tV d i) srcM (dstM l) gathers_S6400000_S128 cc2_scratch3.sem (View.wordExact_bits rfl) rfl (Or.inl rfl) (by decide) j (r j)
  change _ ⊢ iprop(_ -∗ wp frame (wpE (defs₀ (F := F)) 𝒱₀ (tV d i) none) Set.univ
    (.op (.enqueueIndirectDma rfl (offM l) (o := 128) rfl cc2_scratch3.sem fam) fun _ => K) Q)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (SparseCore.rowOf (F := F) (S6400000.size gathers_S6400000_S128.axis) ((offM l).view.read (Elt F) fo (S.entry j))).map _ = _
    rw [SparseCore.rowOf_of_lt (hin' _)]; rfl
  have hN : ∑ j, (rd j).dst.view.dmaCredit = 4096 := by
    have := SparseCore.sum_rowCredit_eq_dmaCredit (dstM l) gathers_S6400000_S128.axis' (fun _ => rfl)
    exact this
  have hent : ∀ j : Fin 128, (offM l).view.emb (S.entry j) = (ix2 l j : S50x128.Idx) := fun j => by
    rw [off_emb]; exact congrArg (fun k : Fin 128 => (ix2 l k : S50x128.Idx)) (entry_coord j)
  iintro ⟨Hb, Hp⟩ Hk
  unfold GB Transfers.Batch
  icases Hb with ⟨%γ, %γ₀, %κ, #Hinv, Hc, H0, Hcr⟩
  ihave Hp' := (Entails.of_eq (pending_block (heldT d i fo fp q f1) 128 (128 * l.val) hl)) $$ Hp
  icases Hp' with ⟨Hnow, Hlater⟩
  ihave Hc' := (Entails.of_eq (pending_block (F := F) (fun t => count countersEmb (γ t) 0) 128 (128 * l.val) hl)) $$ Hc
  icases Hc' with ⟨Hcnow, Hclater⟩
  iapply (wp_enqueueIndirectDma 𝒱₀ (tV d i) none Set.univ (qo := fullShare) (fo := fo) (rd := rd) (default : HIx 1) 4096 hA hrd hN) $$ [Hnow Hcnow]
  · have hrow : ∀ j : Fin 128, iprop(inv κ (Transfers.batchBody countersEmb (tV d i, .dma cc2_scratch3.sem) 32 (heldT d i fo fp q (gathered d i fo fp)) γ γ₀)
          ∗ (heldT d i fo fp q f1 ⟨128 * l.val + j.val, by omega⟩ ∗ count countersEmb (γ ⟨128 * l.val + j.val, by omega⟩) 0))
        ⊢ iprop(S.heldEntry fullShare fo j ∗ (S.heldEntry fullShare fo j -∗ rowRes (tV d i) (rd j))) := fun j => by
      have hE : entryOf ⟨128 * l.val + j.val, by omega⟩ = (ix2 l j : S50x128.Idx) := entryOf_trOf l j
      have hset : (wordV l j).set = ({ix2 l j} : Finset S50x128.Idx) := dst_row_set l j
      have hw : ∀ x, (rd j).via.apply ((srcM).view.read (Elt F) fp) x = wordAt fp (BitVec.toNat (fo (ix2 l j : S50x128.Idx))) := fun x => by
        refine (src_word d fp (r j) x).trans (congrArg (wordAt fp) ?_)
        change BitVec.toNat ((offM l).view.read (Elt F) fo (S.entry j)) = _
        exact congrArg (fun z => BitVec.toNat (fo z)) (hent j)
      have hput : ((tV d i).loc cc2_scratch1 ↦[({ix2 l j} : Finset S50x128.Idx)]{fullShare} f1 : sProp 𝕄)
          ⊢ writeUpdate (tV d i) (wordV l j) ((rd j).via.apply ((srcM).view.read (Elt F) fp))
              iprop((tV d i).loc cc2_scratch1 ↦[({ix2 l j} : Finset S50x128.Idx)]{fullShare} gathered d i fo fp) := by
        have h := pointsTo_writeUpdate (Ix := HIx 1) (Name := ℕ) (U := UU) (Lvl := ℕ) (Val := Elt F) (tV d i) (v := wordV l j) (S := (wordV l j).set) subset_rfl
          (fd := f1) (w := (rd j).via.apply ((srcM).view.read (Elt F) fp))
        rw [hset] at h
        refine h.trans (Entails.of_eq (congrArg (writeUpdate (tV d i) (wordV l j) ((rd j).via.apply ((srcM).view.read (Elt F) fp))) ?_))
        exact pointsTo_congr fun y hy => write_word d i f1 fo fp l j _ hw y (Finset.mem_singleton.mp hy)
      have hres : iprop((((tV d i).loc cc2_scratch1 ↦[({ix2 l j} : Finset S50x128.Idx)]{fullShare} gathered d i fo fp) ∗ S.heldEntry fullShare fo j)
            ∗ (pLoc d ↦[(srcM).view.set]{pieceOf q 6400 (by decide) ⟨128 * l.val + j.val, by omega⟩} fp))
          ⊢ heldT d i fo fp q (gathered d i fo fp) ⟨128 * l.val + j.val, by omega⟩ := by
        unfold heldT Stream.heldEntry
        rw [hE]
        iintro ⟨⟨H1, H2⟩, H3⟩
        isplitl [H1]; · iexact H1
        isplitl [H2]
        · iapply (Entails.of_eq (congrArg (fun z : S50x128.Idx => ((tV d i).loc cc2_scratch0 ↦[({z} : Finset S50x128.Idx)]{fullShare} fo : sProp 𝕄)) (hent j))) $$ H2
        · iexact H3
      iintro ⟨#Hinv, Hh, Hγ⟩
      unfold heldT
      icases Hh with ⟨Hr, He, Hs⟩
      isplitl [He]
      · unfold Stream.heldEntry
        rw [hE]
        iapply (Entails.of_eq (congrArg (fun z : S50x128.Idx => ((tV d i).loc cc2_scratch0 ↦[({z} : Finset S50x128.Idx)]{fullShare} fo : sProp 𝕄)) (hent j).symm)) $$ He
      iintro He
      unfold rowRes
      iexists pieceOf q 6400 (by decide) ⟨128 * l.val + j.val, by omega⟩, fp, iprop(((tV d i).loc cc2_scratch1 ↦[({ix2 l j} : Finset S50x128.Idx)]{fullShare} gathered d i fo fp) ∗ S.heldEntry fullShare fo j)
      isplitl [Hs]; · iexact Hs
      isplitl [Hr He]
      · iapply writeUpdate_frame
        isplitl [Hr]
        · iapply hput
          iapply (Entails.of_eq (congrArg (fun z : S50x128.Idx => ((tV d i).loc cc2_scratch1 ↦[({z} : Finset S50x128.Idx)]{fullShare} f1 : sProp 𝕄)) hE)) $$ Hr
        · iexact He
      · iapply (Transfers.batch_creditUpdate countersEmb (⟨128 * l.val + j.val, by omega⟩ : Fin 6400) hres)
        isplitr; · iexact Hinv
        iexact Hγ
    unfold Stream.res
    ihave H3 := Transfers.bigSep_sep_in _ _ _ $$ [Hnow Hcnow]; · isplitl [Hnow] <;> iassumption
    iapply (Transfers.bigSep_mono_pers Finset.univ _ _ _ fun j _ => hrow j)
    isplitr; · iexact Hinv
    iexact H3
  · iintro Hcred
    iapply Hk
    isplitr [Hlater]
    · iexists γ, γ₀, κ
      isplitr; · iexact Hinv
      isplitl [Hclater]; · iexact Hclater
      isplitl [H0]; · iexact H0
      have hcr : iprop(cred (tallyAt (tV d i, .dma cc2_scratch3.sem) (default : HIx 1) (128 * l.val * 32 - 0))
          ∗ cred (tallyAt (tV d i, .dma cc2_scratch3.sem) (default : HIx 1) 4096))
          ⊢ (cred (tallyAt (tV d i, .dma cc2_scratch3.sem) (default : HIx 1) ((128 * l.val + 128) * 32 - 0)) : sProp 𝕄) := by
        rw [show (128 * l.val + 128) * 32 - 0 = (128 * l.val * 32 - 0) + 4096 by omega, ← tallyAt_add]
        exact (cred_add _ _).2
      iapply hcr
      isplitl [Hcr] <;> iassumption
    · iexact Hlater

end Batch

end Cert.Proof

end
-- ==== Proof.Tile.lean ====
/-
  One tile's run: the index block copied in, the fifty gathers and their waits, the eight chunks summed and squashed,
  the results copied out.
-/
module

public import proofs.«01_k».proof.Proof.Gather

@[expose] public section

set_option maxRecDepth 16384

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

section Steps

variable (d : Dev nD) (i : grid2.Coords)

/-- The run of a program on the tile, to a postcondition. -/
abbrev runs (p : TProg F i PUnit) (Q : PUnit → sProp 𝕄) : sProp 𝕄 :=
  wp frame (wpE (defs₀ (F := F)) 𝒱₀ (tV d i) none) Set.univ p Q

/-! ## The gathers and their waits -/

section Batch

variable (f1 : Buf (Elt F) ((tV d i).loc cc2_scratch1)) (fo : Buf (Elt F) ((tV d i).loc cc2_scratch0))
variable (fp : Buf (Elt F) (pLoc d)) (q : PosShare TreeShare)

/-- All the gathers from row `l` on. -/
theorem wp_gathers (hin : ∀ y, BitVec.toNat (fo y) < 6400000) (K : TProg F i PUnit) (Q : PUnit → sProp 𝕄) (R : sProp 𝕄)
    (hK : iprop(GB d i fo fp q 6400 0 ∗ R) ⊢ runs d i K Q) : ∀ (n l : ℕ) (h : l + n = 50),
    iprop(GB d i fo fp q (128 * l) 0 ∗ bigSep (Transfers.pending (128 * l)) (heldT d i fo fp q f1) ∗ R) ⊢ runs d i (gathers i K n l h) Q
  | 0, l, h => by
    obtain rfl : l = 50 := by omega
    iintro ⟨Hb, -, HR⟩
    iapply hK
    isplitl [Hb] <;> iassumption
  | n + 1, l, h => by
    have ih := wp_gathers hin K Q R hK n (l + 1) (by omega)
    iintro ⟨Hb, Hp, HR⟩
    iapply (wp_gatherRow d i f1 fo fp q hin (⟨l, by omega⟩ : Fin 50) (gathers i K n (l + 1) (by omega)) Q) $$ [Hb Hp]
    · isplitl [Hb] <;> iassumption
    iintro ⟨Hb, Hp⟩
    iapply ih
    isplitl [Hb]; · iexact Hb
    isplitl [Hp]; · iexact Hp
    iexact HR

/-- All the waits from row `l` on. -/
theorem wp_waits (O : CellTallies nD τ sig (HIx 1)) (W : Waits sig (HIx 1)) (hO : ∀ g, O g none = 0) (K' : TProg F i PUnit) (Q : PUnit → sProp 𝕄) (R : sProp 𝕄)
    (hK : iprop(levAts (K (F := F)).L (K (F := F)).lev ∗ GB d i fo fp q 6400 (128 * 50 * 32) ∗ (∃ W', ⌜∀ p ∈ W', p ∈ W ∨ p.2 = none⌝ ∗ owes (tV d i) O W') ∗ R) ⊢ runs d i K' Q) :
    ∀ (n l : ℕ) (h : l + n = 50),
    iprop(levAts (K (F := F)).L (K (F := F)).lev ∗ GB d i fo fp q 6400 (128 * l * 32) ∗ (∃ W', ⌜∀ p ∈ W', p ∈ W ∨ p.2 = none⌝ ∗ owes (tV d i) O W') ∗ R)
      ⊢ runs d i (waits i K' n l h) Q
  | 0, l, h => by
    obtain rfl : l = 50 := by omega
    exact hK
  | n + 1, l, h => by
    have ih := wp_waits O W hO K' Q R hK n (l + 1) (by omega)
    change _ ⊢ wp frame (wpE (defs₀ (F := F)) 𝒱₀ (tV d i) none) Set.univ
      (.op (.waitDma2 cc2_scratch3.sem srcM (dstM (⟨l, by omega⟩ : Fin 50)) (View.wordExact_bits rfl) ((View.wordExact_bits rfl).reshape _ _)) fun _ => waits i K' n (l + 1) (by omega)) Q
    iintro ⟨#Hlv, Hb, ⟨%W', %hW', HO⟩, HR⟩
    ihave Hmw := (show levAts (K (F := F)).L (K (F := F)).lev ⊢ Transfers.MayWaits (tV d i) (default : HIx 1) O from
      (K (F := F)).mayWaits_none (thr := tV d i) hO) $$ Hlv
    iapply (Transfers.wp_waitBatchMulO countersEmb 𝒱₀ (tV d i) none (default : HIx 1) (N := 32) 128 (by rfl)
      (D := heldT d i fo fp q (gathered d i fo fp)) (j := 6400) (u := 128 * l * 32) (by omega)) $$ [Hb HO]
    · isplitl [Hb]; · iexact Hb
      isplitl [HO]; · iexact HO
      iapply (Transfers.MayWaits.elim (SemLoc.dma cc2_scratch3.sem)) $$ Hmw
    iintro ⟨Hb, HO⟩
    iapply ih
    isplitr; · iexact Hlv
    isplitl [Hb]
    · iapply (Entails.of_eq (congrArg (GB d i fo fp q 6400) (show 128 * l * 32 + 128 * 32 = 128 * (l + 1) * 32 by omega))) $$ Hb
    isplitl [HO]
    · iexists _; isplitr
      swap; · iexact HO
      ipureintro; intro p hp
      rcases Finset.mem_insert.mp hp with hp | hp
      · exact .inr (hp ▸ rfl)
      · exact hW' p hp
    iexact HR

end Batch

/-! ## The chunks -/

section Sums

/-- Lane `k` of chunk `c`. -/
def laneOf (c : Fin 8) (k : S16.Idx) : Fin 128 := ⟨16 * c.val + (k 0).val, by have h : (k 0).val < 16 := (k 0).isLt; omega⟩

/-- Lane `k` of chunk `c` of row `l`, as the load reads it. -/
theorem lane_read (G : Buf (Elt F) ((tV d i).loc cc2_scratch1)) (l : Fin 50) (c : Fin 8) (k : S16.Idx) :
    shapeCast S16 (((Memref.whole cc2_scratch1 : Memref sig .scVector .vmem S50x128 .f32).access
      (Rect.unit (s := S50x128) ![l.val, 16 * c.val] S1x16.size (lane_inb l c))).read (Elt F) G : Vec F S1x16 .f32) shapeCasts_S1x16_S16 k
      = G (ix2 l (laneOf c k) : S50x128.Idx) := by
  refine congrArg G ?_
  have h : Shape.reshapeEquiv shapeCasts_S1x16_S16 k = (ix2 (0 : Fin 1) (k 0) : S1x16.Idx) := by
    refine (Shape.reshapeEquiv_cons_one _ k).trans ?_
    funext a
    match a with
    | ⟨0, _⟩ => rfl
    | ⟨1, _⟩ => rfl
  refine (congrArg (Rect.unit (s := S50x128) ![l.val, 16 * c.val] S1x16.size (lane_inb l c)).emb h).trans ?_
  funext a
  apply Fin.ext
  match a with
  | ⟨0, _⟩ => change l.val + 1 * 0 = l.val; omega
  | ⟨1, _⟩ => change 16 * c.val + 1 * (k 0).val = 16 * c.val + (k 0).val; omega

variable (G : Buf (Elt F) ((tV d i).loc cc2_scratch1)) (g : ℕ → Fin 128 → F .f32)

/-- A load of a chunk of a row. -/
theorem wp_loadLane (l : Fin 50) (c : Fin 8) (K : Vec F S1x16 .f32 → TProg F i PUnit) (Q : PUnit → sProp 𝕄) (R : sProp 𝕄)
    (hK : ∀ v : Vec F S1x16 .f32, (∀ k, shapeCast S16 v shapeCasts_S1x16_S16 k = G (ix2 l (laneOf c k) : S50x128.Idx)) →
      iprop(((tV d i).loc cc2_scratch1 ↦{fullShare} G) ∗ R) ⊢ runs d i (K v) Q) :
    iprop(((tV d i).loc cc2_scratch1 ↦{fullShare} G) ∗ R) ⊢ runs d i (loadLane i l c K) Q := by
  change _ ⊢ wp frame (wpE (defs₀ (F := F)) 𝒱₀ (tV d i) none) Set.univ
    (.op (.load (Memref.whole cc2_scratch1 : Memref sig .scVector .vmem S50x128 .f32) (Rect.unit (s := S50x128) ![l.val, 16 * c.val] S1x16.size (lane_inb l c)).toLoadRect (View.loadsAt_vmem h_S1x16)) K) Q
  iintro ⟨HG, HR⟩
  iapply (wp_load_rect 𝒱₀ (tV d i) none Set.univ (m := (Memref.whole cc2_scratch1 : Memref sig .scVector .vmem S50x128 .f32)) (r := Rect.unit (s := S50x128) ![l.val, 16 * c.val] S1x16.size (lane_inb l c)) (Finset.subset_univ _)) $$ HG
  iintro HG
  iapply (hK _ (lane_read d i G l c))
  isplitl [HG] <;> iassumption

/-- The running sum over the rows from `l` on. -/
theorem wp_sums (hG : ∀ (l : Fin 50) (j : Fin 128), G (ix2 l j : S50x128.Idx) = g l.val j) (c : Fin 8)
    (K : FVec F S16 .f32 → TProg F i PUnit) (Q : PUnit → sProp 𝕄) (R : sProp 𝕄)
    (hK : ∀ acc : FVec F S16 .f32, (∀ k, acc k = sumUpTo (fun l => g l (laneOf c k)) 49) →
      iprop(((tV d i).loc cc2_scratch1 ↦{fullShare} G) ∗ R) ⊢ runs d i (K acc) Q) :
    ∀ (n l : ℕ) (h : l + 1 + n = 50) (acc : FVec F S16 .f32) (hacc : ∀ k, acc k = sumUpTo (fun l => g l (laneOf c k)) l),
    iprop(((tV d i).loc cc2_scratch1 ↦{fullShare} G) ∗ R) ⊢ runs d i (sums i c K n (l + 1) h acc) Q
  | 0, l, h, acc, hacc => by
    obtain rfl : l = 49 := by omega
    exact hK acc hacc
  | n + 1, l, h, acc, hacc => by
    refine wp_loadLane d i G (⟨l + 1, by omega⟩ : Fin 50) c _ Q R fun v hv => ?_
    refine wp_sums hG c K Q R hK n (l + 1) (by omega) _ fun k => ?_
    change FloatOps.addf (acc k) (shapeCast S16 v shapeCasts_S1x16_S16 k) = FloatOps.addf _ _
    rw [hacc, hv, hG]

/-- What a chunk's store leaves. -/
theorem store_read (f2 : Buf (Elt F) ((tV d i).loc cc2_scratch2)) (c : Fin 8) (w : FVec F S16 .f32) (j : Fin 128) (t : F .f32)
    (hlo : j.val < 16 * c.val → f2 (ix1 j : S128.Idx) = t) (hhi : ∀ k, laneOf c k = j → w k = t) (hj : j.val < 16 * (c.val + 1)) :
    ((Memref.whole cc2_scratch2 : Memref sig .scVector .vmem S128 .f32).access (Rect.unit (s := S128) ![16 * c.val] S16.size (res_inb c))).write
      (Elt F) f2 (shapeCast S16 w shapeCasts_S16_S16) Finset.univ (ix1 j : S128.Idx) = t := by
  have hemb : ∀ k : S16.Idx, ((Memref.whole cc2_scratch2 : Memref sig .scVector .vmem S128 .f32).access (Rect.unit (s := S128) ![16 * c.val] S16.size (res_inb c))).emb k
      = (ix1 (laneOf c k) : S128.Idx) := fun k => by
    funext a
    apply Fin.ext
    match a with
    | ⟨0, _⟩ => change 16 * c.val + 1 * (k 0).val = 16 * c.val + (k 0).val; omega
  by_cases hc : j.val < 16 * c.val
  · refine (View.write_of_not_mem _ _ _ ?_).trans (hlo hc)
    intro hm
    obtain ⟨k, -, hk⟩ := Finset.mem_map.mp hm
    have h1 := congrArg Fin.val (congrFun ((hemb k).symm.trans hk) 0)
    change 16 * c.val + (k 0).val = j.val at h1
    omega
  · let k : S16.Idx := ix1 (⟨j.val - 16 * c.val, by omega⟩ : Fin 16)
    have hk : laneOf c k = j := Fin.ext (show 16 * c.val + (j.val - 16 * c.val) = j.val by omega)
    refine (congrArg (((Memref.whole cc2_scratch2 : Memref sig .scVector .vmem S128 .f32).access (Rect.unit (s := S128) ![16 * c.val] S16.size (res_inb c))).write
      (Elt F) f2 (shapeCast S16 w shapeCasts_S16_S16) Finset.univ) ((congrArg (fun z : Fin 128 => (ix1 z : S128.Idx)) hk.symm).trans (hemb k).symm)).trans ?_
    refine (View.write_emb_of_mem _ _ (Finset.mem_univ k)).trans ?_
    refine Eq.trans ?_ (hhi k hk)
    exact congrArg w (Shape.reshapeEquiv_self _ k)

/-- A chunk. -/
theorem wp_chunk (hG : ∀ (l : Fin 50) (j : Fin 128), G (ix2 l j : S50x128.Idx) = g l.val j) (c : Fin 8)
    (K : TProg F i PUnit) (Q : PUnit → sProp 𝕄) (R : sProp 𝕄) (f2 : Buf (Elt F) ((tV d i).loc cc2_scratch2))
    (h2 : ∀ j : Fin 128, j.val < 16 * c.val → f2 (ix1 j : S128.Idx) = sig1 (sumUpTo (fun l => g l j) 49))
    (hK : ∀ f2' : Buf (Elt F) ((tV d i).loc cc2_scratch2), (∀ j : Fin 128, j.val < 16 * (c.val + 1) → f2' (ix1 j : S128.Idx) = sig1 (sumUpTo (fun l => g l j) 49)) →
      iprop(((tV d i).loc cc2_scratch1 ↦{fullShare} G) ∗ ((tV d i).loc cc2_scratch2 ↦{fullShare} f2') ∗ R) ⊢ runs d i K Q) :
    iprop(((tV d i).loc cc2_scratch1 ↦{fullShare} G) ∗ ((tV d i).loc cc2_scratch2 ↦{fullShare} f2) ∗ R) ⊢ runs d i (chunk i c K) Q := by
  refine wp_loadLane d i G (0 : Fin 50) c _ Q _ fun v hv => ?_
  refine wp_sums d i G g hG c _ Q _ (fun acc hacc => ?_) 49 0 rfl _ fun k => ?_
  · change _ ⊢ wp frame (wpE (defs₀ (F := F)) 𝒱₀ (tV d i) none) Set.univ
      (.op (.load (Memref.whole cc2_scratch2 : Memref sig .scVector .vmem S128 .f32) (Rect.unit (s := S128) ![16 * c.val] S16.size (res_inb c)).toLoadRect (View.loadsAt_vmem h_S16)) fun _ =>
        .op (.store (Memref.whole cc2_scratch2 : Memref sig .scVector .vmem S128 .f32) (Rect.unit (s := S128) ![16 * c.val] S16.size (res_inb c)) (shapeCast S16 (squash acc) shapeCasts_S16_S16) Finset.univ (View.stores_vmem_bits_univ h_S16 rfl) (.inl rfl)) fun _ => K) Q
    iintro ⟨HG, H2, HR⟩
    iapply (wp_load_rect 𝒱₀ (tV d i) none Set.univ (m := (Memref.whole cc2_scratch2 : Memref sig .scVector .vmem S128 .f32)) (r := Rect.unit (s := S128) ![16 * c.val] S16.size (res_inb c)) (Finset.subset_univ _)) $$ H2
    iintro H2
    iapply (wp_store 𝒱₀ (tV d i) none Set.univ (m := (Memref.whole cc2_scratch2 : Memref sig .scVector .vmem S128 .f32)) (r := Rect.unit (s := S128) ![16 * c.val] S16.size (res_inb c)) (Finset.subset_univ _)) $$ H2
    iintro H2
    iapply (hK _ fun j hj => store_read d i f2 c (squash acc) j _ (h2 j) (fun k hk => by
      subst hk
      exact congrArg sig1 (hacc k)) hj)
    isplitl [HG]; · iexact HG
    isplitl [H2] <;> iassumption
  · rw [hv, hG]; rfl

/-- All the chunks from `c` on. -/
theorem wp_chunks (hG : ∀ (l : Fin 50) (j : Fin 128), G (ix2 l j : S50x128.Idx) = g l.val j)
    (K : TProg F i PUnit) (Q : PUnit → sProp 𝕄) (R : sProp 𝕄)
    (hK : ∀ f2' : Buf (Elt F) ((tV d i).loc cc2_scratch2), (∀ j : Fin 128, f2' (ix1 j : S128.Idx) = sig1 (sumUpTo (fun l => g l j) 49)) →
      iprop(((tV d i).loc cc2_scratch1 ↦{fullShare} G) ∗ ((tV d i).loc cc2_scratch2 ↦{fullShare} f2') ∗ R) ⊢ runs d i K Q) :
    ∀ (n c : ℕ) (h : c + n = 8) (f2 : Buf (Elt F) ((tV d i).loc cc2_scratch2))
      (h2 : ∀ j : Fin 128, j.val < 16 * c → f2 (ix1 j : S128.Idx) = sig1 (sumUpTo (fun l => g l j) 49)),
    iprop(((tV d i).loc cc2_scratch1 ↦{fullShare} G) ∗ ((tV d i).loc cc2_scratch2 ↦{fullShare} f2) ∗ R) ⊢ runs d i (chunks i K n c h) Q
  | 0, c, h, f2, h2 => by
    obtain rfl : c = 8 := by omega
    exact hK f2 fun j => h2 j (by omega)
  | n + 1, c, h, f2, h2 => by
    refine wp_chunk d i G g hG (⟨c, by omega⟩ : Fin 8) _ Q R f2 h2 fun f2' h2' => ?_
    exact wp_chunks hG K Q R hK n (c + 1) (by omega) f2' h2'

end Sums

end Steps

end Cert.Proof

end
-- ==== Proof.TileBody.lean ====
/-
  The tile's body from its block of the indices to its block of the results, and the obligation the launch asks of it.
-/
module

public import proofs.«01_k».proof.Proof.Tile

@[expose] public section

set_option maxRecDepth 16384

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

/-! ## The tile's blocks of the arrays -/

/-- Block `w` of the indices. -/
def iSet (w : Fin 32) : Finset S32x50x128.Idx := Finset.univ.filter fun y => (y 0).val = w.val
/-- Block `w` of the results. -/
def oSet (w : Fin 32) : Finset S4096.Idx := Finset.univ.filter fun y => (y 0).val / 128 = w.val

theorem idx_emb (i : grid2.Coords) (x : S50x128.Idx) : (idxM i).view.emb x = (ix3 (wid i) (x 0) (x 1) : S32x50x128.Idx) := by
  change (Rect.unit (s := S32x50x128) (k2_off1 i) S1x50x128.size (k2_off1_inb i)).emb (Shape.reshapeEquiv _ x) = _
  refine (congrArg _ (Shape.reshapeEquiv_cons_one _ x)).trans ?_
  have ho := k2_off1_eq i
  funext a
  apply Fin.ext
  match a with
  | ⟨0, _⟩ =>
    change k2_off1 i 0 + 1 * 0 = 2 * (i 1).val + (i 0).val
    rw [ho]; rfl
  | ⟨1, _⟩ =>
    change k2_off1 i 1 + 1 * (x 0).val = (x 0).val
    rw [ho]; change 0 + 1 * (x 0).val = _; omega
  | ⟨2, _⟩ =>
    change k2_off1 i 2 + 1 * (x 1).val = (x 1).val
    rw [ho]; change 0 + 1 * (x 1).val = _; omega

theorem out_emb (i : grid2.Coords) (x : S128.Idx) : ((outM i).view.emb x 0).val = 128 * (wid i).val + (x 0).val := by
  change k2_off2 i 0 + 1 * (x 0).val = 128 * (2 * (i 1).val + (i 0).val) + (x 0).val
  rw [k2_off2_eq]
  change 256 * (i 1).val + 128 * (i 0).val + 1 * (x 0).val = _
  omega

theorem idx_set (i : grid2.Coords) : (idxM i).view.set = iSet (wid i) := by
  ext y
  simp only [View.set, iSet, Finset.mem_map, Finset.mem_univ, true_and, Finset.mem_filter]
  constructor
  · rintro ⟨x, rfl⟩; rw [idx_emb]
  · intro h
    refine ⟨ix2 (y 1) (y 2), (idx_emb i _).trans ?_⟩
    rw [← Fin.ext h]
    exact (ValueIdx.eq_ix3 (n0 := 32) (n1 := 50) (n2 := 128) y).symm

theorem out_set (i : grid2.Coords) : (outM i).view.set = oSet (wid i) := by
  ext y
  simp only [View.set, oSet, Finset.mem_map, Finset.mem_univ, true_and, Finset.mem_filter]
  constructor
  · rintro ⟨x, rfl⟩
    rw [out_emb]
    have h : (x 0).val < 128 := (x 0).isLt
    omega
  · intro h
    refine ⟨ix1 (⟨(y 0).val % 128, Nat.mod_lt _ (by decide)⟩ : Fin 128), ?_⟩
    funext a
    match a with
    | ⟨0, _⟩ =>
      apply Fin.ext
      refine (out_emb i _).trans ?_
      change 128 * (wid i).val + (y 0).val % 128 = (y 0).val
      omega

theorem src_set : (srcM).view.set = Finset.univ := by
  ext y
  simp only [View.set, Finset.mem_map, Finset.mem_univ, true_and, iff_true]
  exact ⟨y, src_emb y⟩

/-! ## What the task takes and gives back -/

section Tile

variable (fi : S32x50x128.Idx → BitVec 32) (fp : S6400000.Idx → F .f32)

/-- The share of the table of words that block `w` reads through. -/
abbrev pShare (w : Fin 32) : PosShare TreeShare := pieceOf fullShare 32 (by decide) w

/-- What the tile of block `w` is handed. -/
def tIn (d : Dev nD) (w : Fin 32) : sProp 𝕄 :=
  iprop((iLoc d ↦[iSet w]{fullShare} fi) ∗ (pLoc d ↦{pShare w} fp) ∗ ∃ f, oLoc d ↦[oSet w]{fullShare} f)
/-- What it gives back. -/
def tOut (d : Dev nD) (w : Fin 32) : sProp 𝕄 :=
  iprop((iLoc d ↦[iSet w]{fullShare} fi) ∗ (pLoc d ↦{pShare w} fp) ∗ (oLoc d ↦[oSet w]{fullShare} bagOut fi fp))

instance tIn_storable (d : Dev nD) (w : Fin 32) : Storable (upEmb : UEmb _ 𝕄) (tIn fi fp d w) := by unfold tIn; infer_instance
instance tOut_storable (d : Dev nD) (w : Fin 32) : Storable (upEmb : UEmb _ 𝕄) (tOut fi fp d w) := by unfold tOut; infer_instance

variable (d : Dev nD) (i : grid2.Coords)

abbrev cellG : GSem nD τ sig := (tV d i, .dma cc2_scratch3.sem)
abbrev cellI : GSem nD τ sig := (tV d i, .dma cc2_scoped0.sem)
abbrev cellO : GSem nD τ sig := (tV d i, .dma cc2_scoped1.sem)

theorem ownSems0_tile :
    (ownSems0 (tV d i) : sProp 𝕄)
      = iprop(semVal (cellG d i) 0 ∗ semVal (cellI d i) 0 ∗ semVal (cellO d i) 0
          ∗ bigSep ((((ownCells (tV d i)).erase (cellG d i)).erase (cellI d i)).erase (cellO d i)) fun g => semVal g 0) := by
  unfold SparseCore.Cfg.ownSems0
  rw [SparseCore.bigSep_erase' ((mem_ownCells (g := cellG d i)).mpr ⟨rfl, by
      show (SemLoc.dma cc2_scratch3.sem : SemLoc sig).isScoped .scVector = true; decide⟩),
    SparseCore.bigSep_erase' (Finset.mem_erase.mpr ⟨by simp [cellG, cellI]; decide, (mem_ownCells (g := cellI d i)).mpr ⟨rfl, by
      show (SemLoc.dma cc2_scoped0.sem : SemLoc sig).isScoped .scVector = true; decide⟩⟩),
    SparseCore.bigSep_erase' (Finset.mem_erase.mpr ⟨by simp [cellI, cellO]; decide, Finset.mem_erase.mpr ⟨by simp [cellG, cellO]; decide,
      (mem_ownCells (g := cellO d i)).mpr ⟨rfl, by show (SemLoc.dma cc2_scoped1.sem : SemLoc sig).isScoped .scVector = true; decide⟩⟩⟩)]

abbrev refOf (b : Ref sig .scVector) : DevRef τ sig := (Proc.scVector (cV i) (jV i)).devRef b

theorem ownBufs_tile :
    (ownBufs (tV d i) : sProp 𝕄)
      = iprop((∃ f, (tV d i).loc cc2_scratch0 ↦{fullShare} f) ∗ (∃ f, (tV d i).loc cc2_scratch1 ↦{fullShare} f) ∗ (∃ f, (tV d i).loc cc2_scratch2 ↦{fullShare} f)
          ∗ bigSep ((((ownRefs (τ := τ) (.scVector (cV i) (jV i))).erase (refOf i cc2_scratch0)).erase (refOf i cc2_scratch1)).erase (refOf i cc2_scratch2))
              fun b => iprop(∃ f, ((d, b) : Loc nD τ sig) ↦{fullShare} f)) := by
  have inj : ∀ a b : Ref sig .scVector, a ≠ b → refOf i a ≠ refOf i b := fun a b h e => h (Proc.devRef_injective _ e)
  have own : ∀ b : Ref sig .scVector, (refOf i b).owner = .proc (.scVector (cV i) (jV i)) → refOf i b ∈ ownRefs (τ := τ) (.scVector (cV i) (jV i)) := fun b h =>
    SparseCore.Cfg.mem_ownRefs_of_owner h
  unfold SparseCore.Cfg.ownBufs
  refine (SparseCore.bigSep_erase' (own cc2_scratch0 rfl)).trans ?_
  rw [SparseCore.bigSep_erase' (Finset.mem_erase.mpr ⟨inj cc2_scratch1 cc2_scratch0 (by decide), own cc2_scratch1 rfl⟩),
    SparseCore.bigSep_erase' (Finset.mem_erase.mpr ⟨inj cc2_scratch2 cc2_scratch1 (by decide), Finset.mem_erase.mpr ⟨inj cc2_scratch2 cc2_scratch0 (by decide), own cc2_scratch2 rfl⟩⟩)]

/-! ## The copies -/

/-- The index scratch once the block is in. -/
def idxIn : Buf (Elt F) ((tV d i).loc cc2_scratch0) := fun y => fi (ix3 (wid i) (y 0) (y 1))

/-- Waits recorded at no call. -/
abbrev owesFrom (O : CellTallies nD τ sig (HIx 1)) (W : Waits sig (HIx 1)) : sProp 𝕄 :=
  iprop(∃ W', ⌜∀ p ∈ W', p ∈ W ∨ p.2 = none⌝ ∗ owes (tV d i) O W')

set_option maxHeartbeats 1000000 in
theorem wp_copyIn (O : CellTallies nD τ sig (HIx 1)) (W : Waits sig (HIx 1)) (hO : ∀ g, O g none = 0) (fs : Buf (Elt F) ((tV d i).loc cc2_scratch0))
    (K' : TProg F i PUnit) (Q : PUnit → sProp 𝕄) (R : sProp 𝕄)
    (hK : iprop(levAts (K (F := F)).L (K (F := F)).lev ∗ (iLoc d ↦[iSet (wid i)]{fullShare} fi) ∗ ((tV d i).loc cc2_scratch0 ↦{fullShare} idxIn fi d i) ∗ semVal (cellI d i) 0
        ∗ owesFrom d i O W ∗ R) ⊢ runs d i K' Q) :
    iprop(levAts (K (F := F)).L (K (F := F)).lev ∗ (iLoc d ↦[iSet (wid i)]{fullShare} fi) ∗ ((tV d i).loc cc2_scratch0 ↦{fullShare} fs) ∗ semVal (cellI d i) 0
        ∗ owesFrom d i O W ∗ R) ⊢ runs d i (copyIn i K') Q := by
  unfold runs copyIn
  iintro ⟨#Hlv, Hi, Hs, Hsem, ⟨%W', %hW', HO⟩, HR⟩
  ihave Hmw := (show levAts (K (F := F)).L (K (F := F)).lev ⊢ Transfers.MayWaits (tV d i) (default : HIx 1) O from
    (K (F := F)).mayWaits_none (thr := tV d i) hO) $$ Hlv
  ihave Hi' := (Entails.of_eq (show (iLoc d ↦[iSet (wid i)]{fullShare} fi : sProp 𝕄) = ((idxM i).view.loc (tV d i) ↦[(idxM i).view.set]{fullShare} fi) by rw [idx_set])) $$ Hi
  ihave Hs' := (Entails.of_eq (show ((tV d i).loc cc2_scratch0 ↦{fullShare} fs : sProp 𝕄) = ((Memref.whole cc2_scratch0 : Memref sig .scVector .vmem S50x128 .i32).view.loc (tV d i) ↦{fullShare} fs) from rfl)) $$ Hs
  sl_exec
  iapply hK
  isplitr; · iexact Hlv
  isplitl [Hi']
  · iapply (Entails.of_eq (show ((idxM i).view.loc (tV d i) ↦[(idxM i).view.set]{fullShare} fi : sProp 𝕄) = (iLoc d ↦[iSet (wid i)]{fullShare} fi) by rw [idx_set])) $$ Hi'
  isplitl [Hs']
  · have hv : View.write (Elt F) (Memref.whole cc2_scratch0 : Memref sig .scVector .vmem S50x128 .i32).view fs (wp_copyIn.sl.dma0 fi i) Finset.univ = idxIn fi d i := by
      refine (View.write_whole_univ (Val := Elt F) _ _ _).trans ?_
      funext y
      exact congrArg fi (idx_emb i y)
    iapply (Entails.of_eq (congrArg (fun f => ((tV d i).loc cc2_scratch0 ↦{fullShare} f : sProp 𝕄)) hv)) $$ Hs'
  isplitl [Hsem]; · iexact Hsem
  isplitl [HO]
  · iexists _; isplitr
    swap; · iexact HO
    ipureintro; intro p hp
    rcases Finset.mem_insert.mp hp with hp | hp
    · exact .inr (hp ▸ rfl)
    · exact hW' p hp
  iexact HR

set_option maxHeartbeats 1000000 in
theorem wp_copyOut (O : CellTallies nD τ sig (HIx 1)) (W : Waits sig (HIx 1)) (hO : ∀ g, O g none = 0) (fr : Buf (Elt F) ((tV d i).loc cc2_scratch2))
    (hfr : ∀ j : Fin 128, fr (ix1 j : S128.Idx) = bagVal fi fp (wid i) j) (R : sProp 𝕄) :
    iprop(levAts (K (F := F)).L (K (F := F)).lev ∗ (∃ f, oLoc d ↦[oSet (wid i)]{fullShare} f) ∗ ((tV d i).loc cc2_scratch2 ↦{fullShare} fr) ∗ semVal (cellO d i) 0
        ∗ owesFrom d i O W ∗ R)
      ⊢ runs d i (copyOut i) fun _ => iprop((oLoc d ↦[oSet (wid i)]{fullShare} bagOut fi fp) ∗ (∃ f, (tV d i).loc cc2_scratch2 ↦{fullShare} f) ∗ semVal (cellO d i) 0
        ∗ owesFrom d i O W ∗ R) := by
  unfold runs copyOut
  iintro ⟨#Hlv, ⟨%fo, Ho⟩, Hs, Hsem, ⟨%W', %hW', HO⟩, HR⟩
  ihave Hmw := (show levAts (K (F := F)).L (K (F := F)).lev ⊢ Transfers.MayWaits (tV d i) (default : HIx 1) O from
    (K (F := F)).mayWaits_none (thr := tV d i) hO) $$ Hlv
  ihave Ho' := (Entails.of_eq (show (oLoc d ↦[oSet (wid i)]{fullShare} fo : sProp 𝕄) = ((outM i).view.loc (tV d i) ↦[(outM i).view.set]{fullShare} fo) by rw [out_set])) $$ Ho
  ihave Hs' := (Entails.of_eq (show ((tV d i).loc cc2_scratch2 ↦{fullShare} fr : sProp 𝕄) = ((Memref.whole cc2_scratch2 : Memref sig .scVector .vmem S128 .f32).view.loc (tV d i) ↦{fullShare} fr) from rfl)) $$ Hs
  sl_exec
  sl_step
  isplitl [Ho']
  · have hv : ((outM i).view.loc (tV d i) ↦[(outM i).view.set]{fullShare} (outM i).view.writes (Elt F) fo [⟨Rect.whole S128, wp_copyOut.sl.dma0 d i fr⟩] : sProp 𝕄)
        = (oLoc d ↦[oSet (wid i)]{fullShare} bagOut fi fp) := by
      rw [out_set]
      refine pointsTo_congr fun y hy => ?_
      rw [← out_set] at hy
      obtain ⟨x, -, rfl⟩ := Finset.mem_map.mp hy
      refine (congrArg ((outM i).view.writes (Elt F) fo [⟨Rect.whole S128, wp_copyOut.sl.dma0 d i fr⟩]) (congrArg (outM i).view.emb (Rect.emb_whole_apply S128 x).symm)).trans ?_
      refine (View.write_emb_of_mem (v := (outM i).view.slice (Rect.whole S128)) fo _ (Finset.mem_univ x)).trans ?_
      have hx : (x 0).val < 128 := (x 0).isLt
      have e0 := out_emb i x
      have e1 : ((outM i).view.emb x 0).val / 128 = (wid i).val := by rw [e0]; omega
      have e2 : ((outM i).view.emb x 0).val % 128 = (x 0).val := by rw [e0]; omega
      unfold bagOut
      refine Eq.trans ?_ ((hfr (x 0)).trans (congrArg₂ (bagVal fi fp) (Fin.ext e1.symm) (Fin.ext e2.symm)))
      exact congrArg fr (ValueIdx.eq_ix1 (n := 128) x)
    iapply (Entails.of_eq hv) $$ Ho'
  isplitl [Hs']; · iexists fr; iexact Hs'
  isplitl [Hsem]; · iexact Hsem
  isplitl [HO]
  · iexists _; isplitr
    swap; · iexact HO
    ipureintro; intro p hp
    rcases Finset.mem_insert.mp hp with hp | hp
    · exact .inr (hp ▸ rfl)
    · exact hW' p hp
  iexact HR

/-! ## The whole body -/

/-- Every index names a word of the table. -/
def InTable : Prop := ∀ y : S32x50x128.Idx, (fi y).toNat < 6400000

theorem owesFrom_start (O : CellTallies nD τ sig (HIx 1)) (W : Waits sig (HIx 1)) : (owes (tV d i) O W : sProp 𝕄) ⊢ owesFrom d i O W := by
  iintro HO
  iexists W; isplitr
  · ipureintro; exact fun p hp => .inl hp
  · iexact HO

theorem tile_body (hF : (K (F := F)).Facts) (hfi : InTable fi) (O : CellTallies nD τ sig (HIx 1)) (W : Waits sig (HIx 1)) (hO : ∀ g, O g none = 0) :
    iprop(levAts (K (F := F)).L (K (F := F)).lev ∗ emp ∗ tIn fi fp d (wid i)
        ∗ scopedBufs (tV d i) ∗ scopedSems0 (tV d i) ∗ owes (tV d i) O W)
      ⊢ runs d i (bag i) fun _ => iprop(tOut fi fp d (wid i) ∗ scopedBufs (tV d i) ∗ scopedSems0 (tV d i) ∗ owesFrom d i O W) := by
  rw [(K (F := F)).scopedBufs_V hF d (cV i) (jV i), SparseCore.Cfg.scopedSems0_V (Val := Elt F) d (cV i) (jV i), ownSems0_tile, ownBufs_tile]
  have hin : ∀ y, BitVec.toNat (idxIn (F := F) fi d i y) < 6400000 := fun y => hfi _
  let fo : Buf (Elt F) ((tV d i).loc cc2_scratch0) := idxIn fi d i
  let G : Buf (Elt F) ((tV d i).loc cc2_scratch1) := gathered d i fo fp
  let Ro : sProp 𝕄 := iprop(
      (bigSep ((((ownRefs (τ := τ) (.scVector (cV i) (jV i))).erase (refOf i cc2_scratch0)).erase (refOf i cc2_scratch1)).erase (refOf i cc2_scratch2))
              fun b => iprop(∃ f, ((d, b) : Loc nD τ sig) ↦{fullShare} f))
      ∗ bigSep ((((ownCells (tV d i)).erase (cellG d i)).erase (cellI d i)).erase (cellO d i)) fun g => semVal g 0)
  let Post : PUnit → sProp 𝕄 := fun _ => iprop(tOut fi fp d (wid i) ∗ ((∃ f, (tV d i).loc cc2_scratch0 ↦{fullShare} f) ∗ (∃ f, (tV d i).loc cc2_scratch1 ↦{fullShare} f) ∗ (∃ f, (tV d i).loc cc2_scratch2 ↦{fullShare} f)
          ∗ bigSep ((((ownRefs (τ := τ) (.scVector (cV i) (jV i))).erase (refOf i cc2_scratch0)).erase (refOf i cc2_scratch1)).erase (refOf i cc2_scratch2))
              fun b => iprop(∃ f, ((d, b) : Loc nD τ sig) ↦{fullShare} f))
      ∗ (semVal (cellG d i) 0 ∗ semVal (cellI d i) 0 ∗ semVal (cellO d i) 0
          ∗ bigSep ((((ownCells (tV d i)).erase (cellG d i)).erase (cellI d i)).erase (cellO d i)) fun g => semVal g 0) ∗ owesFrom d i O W)
  -- what every stage after the first copy carries along
  let R1 : sProp 𝕄 := iprop((∃ f, oLoc d ↦[oSet (wid i)]{fullShare} f) ∗ (iLoc d ↦[iSet (wid i)]{fullShare} fi) ∗ semVal (cellI d i) 0 ∗ semVal (cellO d i) 0 ∗ Ro)
  have h5 : ∀ fr : Buf (Elt F) ((tV d i).loc cc2_scratch2), (∀ j : Fin 128, fr (ix1 j : S128.Idx) = sig1 (sumUpTo (fun l => wordAt fp (idxWord fi (wid i) l j)) 49)) →
      iprop(((tV d i).loc cc2_scratch1 ↦{fullShare} G) ∗ ((tV d i).loc cc2_scratch2 ↦{fullShare} fr)
        ∗ (levAts (K (F := F)).L (K (F := F)).lev ∗ ((tV d i).loc cc2_scratch0 ↦{fullShare} fo) ∗ (pLoc d ↦{pShare (wid i)} fp) ∗ semVal (cellG d i) 0 ∗ owesFrom d i O W ∗ R1))
      ⊢ runs d i (copyOut i) Post := fun fr hfr => by
    have h := wp_copyOut fi fp d i O W hO fr hfr iprop(((tV d i).loc cc2_scratch1 ↦{fullShare} G) ∗ ((tV d i).loc cc2_scratch0 ↦{fullShare} fo) ∗ (pLoc d ↦{pShare (wid i)} fp)
      ∗ semVal (cellG d i) 0 ∗ (iLoc d ↦[iSet (wid i)]{fullShare} fi) ∗ semVal (cellI d i) 0 ∗ Ro)
    refine BI.Entails.trans ?_ (h.trans (wp_mono frame _ _ fun _ => ?_))
    · show _ ⊢ (_ : sProp 𝕄)
      iintro ⟨H1, H2, #Hlv, H0, Hp, HsG, HO, Ho, Hi, HsI, HsO, HR⟩
      isplitr; · iexact Hlv
      isplitl [Ho]; · iexact Ho
      isplitl [H2]; · iexact H2
      isplitl [HsO]; · iexact HsO
      isplitl [HO]; · iexact HO
      isplitl [H1]; · iexact H1
      isplitl [H0]; · iexact H0
      isplitl [Hp]; · iexact Hp
      isplitl [HsG]; · iexact HsG
      isplitl [Hi]; · iexact Hi
      isplitl [HsI]; · iexact HsI
      iexact HR
    · show _ ⊢ (_ : sProp 𝕄)
      iintro ⟨Ho, H2, HsO, HO, H1, H0, Hp, HsG, Hi, HsI, Hb, Hs⟩
      isplitl [Hi Hp Ho]
      · unfold tOut
        isplitl [Hi]; · iexact Hi
        isplitl [Hp]; · iexact Hp
        iexact Ho
      isplitl [H0 H1 H2 Hb]
      · isplitl [H0]; · iexists fo; iexact H0
        isplitl [H1]; · iexists G; iexact H1
        isplitl [H2]; · iexact H2
        iexact Hb
      isplitl [HsG HsI HsO Hs]
      · isplitl [HsG]; · iexact HsG
        isplitl [HsI]; · iexact HsI
        isplitl [HsO]; · iexact HsO
        iexact Hs
      iexact HO
  have hG : ∀ (l : Fin 50) (j : Fin 128), G (ix2 l j : S50x128.Idx) = wordAt fp (idxWord fi (wid i) l.val j) := fun l j => by
    have hl : (⟨l.val % 50, Nat.mod_lt _ (by decide)⟩ : Fin 50) = l := Fin.ext (Nat.mod_eq_of_lt l.isLt)
    change wordAt fp (fi (ix3 (wid i) l j)).toNat = wordAt fp (fi (ix3 (wid i) ⟨l.val % 50, Nat.mod_lt _ (by decide)⟩ j)).toNat
    rw [hl]
  have h4 := fun f2 => wp_chunks d i G (fun l j => wordAt fp (idxWord fi (wid i) l j)) hG (copyOut i) Post _ h5 8 0 rfl f2 (fun j hj => absurd hj (by omega))
  have h3 : ∀ f2 : Buf (Elt F) ((tV d i).loc cc2_scratch2),
      iprop(levAts (K (F := F)).L (K (F := F)).lev ∗ GB d i fo fp (pShare (wid i)) 6400 (128 * 50 * 32) ∗ (∃ W', ⌜∀ p ∈ W', p ∈ W ∨ p.2 = none⌝ ∗ owes (tV d i) O W')
        ∗ ((tV d i).loc cc2_scratch2 ↦{fullShare} f2) ∗ R1)
      ⊢ runs d i (chunks i (copyOut i) 8 0 rfl) Post := fun f2 => by
    unfold runs
    iintro ⟨#Hlv, Hb, HO, H2, HR⟩
    iapply (fupd_wp (Fr := frame))
    imod (Transfers.batch_collect' countersEmb (tV d i) (N := 32) (by decide)) $$ Hb with ⟨Hd, HsG⟩
    imodintro
    ihave Hd' := (Entails.of_eq (heldT_all d i fo fp (pShare (wid i)) G)) $$ Hd
    icases Hd' with ⟨H1, H0, Hp⟩
    iapply (h4 f2)
    isplitl [H1]; · iexact H1
    isplitl [H2]; · iexact H2
    isplitr; · iexact Hlv
    isplitl [H0]; · iexact H0
    isplitl [Hp]
    · iapply (Entails.of_eq (congrArg (fun S => (pLoc d ↦[S]{pShare (wid i)} fp : sProp 𝕄)) src_set)) $$ Hp
    isplitl [HsG]; · iexact HsG
    isplitl [HO]; · iexact HO
    iexact HR
  have h2 := fun f2 => wp_waits d i fo fp (pShare (wid i)) O W hO (chunks i (copyOut i) 8 0 rfl) Post _ (h3 f2) 50 0 rfl
  have h1 := fun f1 f2 => wp_gathers d i f1 fo fp (pShare (wid i)) hin (waits i (chunks i (copyOut i) 8 0 rfl) 50 0 rfl) Post
    iprop(levAts (K (F := F)).L (K (F := F)).lev ∗ owesFrom d i O W ∗ ((tV d i).loc cc2_scratch2 ↦{fullShare} f2) ∗ R1) (by
      refine BI.Entails.trans ?_ (h2 f2)
      show _ ⊢ (_ : sProp 𝕄)
      iintro ⟨Hb, #Hlv, HO, H2, HR⟩
      isplitr; · iexact Hlv
      isplitl [Hb]; · iexact Hb
      isplitl [HO]; · iexact HO
      isplitl [H2] <;> iassumption) 50 0 rfl
  have h0 := fun f0 f1 f2 => wp_copyIn fi d i O W hO f0 (gathers i (waits i (chunks i (copyOut i) 8 0 rfl) 50 0 rfl) 50 0 rfl) Post
    iprop(semVal (cellG d i) 0 ∗ ((tV d i).loc cc2_scratch1 ↦{fullShare} f1) ∗ (pLoc d ↦{pShare (wid i)} fp)
      ∗ ((tV d i).loc cc2_scratch2 ↦{fullShare} f2) ∗ (∃ f, oLoc d ↦[oSet (wid i)]{fullShare} f) ∗ semVal (cellO d i) 0 ∗ Ro) (by
      unfold runs
      iintro ⟨#Hlv, Hi, H0, HsI, HO, HsG, H1, Hp, H2, Ho, HsO, HR⟩
      iapply (fupd_wp (Fr := frame))
      imod (Transfers.batch_alloc' countersEmb (tV d i) (default : HIx 1) 32 (heldT d i fo fp (pShare (wid i)) G)) $$ HsG with Hb
      imodintro
      iapply (h1 f1 f2)
      isplitl [Hb]; · iexact Hb
      isplitl [H1 H0 Hp]
      · ihave Hall := (Entails.of_eq (heldT_all d i fo fp (pShare (wid i)) f1).symm) $$ [H1 H0 Hp]
        · isplitl [H1]; · iexact H1
          isplitl [H0]; · iexact H0
          iapply (Entails.of_eq (congrArg (fun S => (pLoc d ↦[S]{pShare (wid i)} fp : sProp 𝕄)) src_set.symm)) $$ Hp
        iapply (Entails.of_eq (Transfers.bigSep_pending_zero (heldT d i fo fp (pShare (wid i)) f1))) $$ Hall
      isplitr; · iexact Hlv
      isplitl [HO]; · iexact HO
      isplitl [H2]; · iexact H2
      isplitl [Ho]; · iexact Ho
      isplitl [Hi]; · iexact Hi
      isplitl [HsI]; · iexact HsI
      isplitl [HsO]; · iexact HsO
      iexact HR)
  unfold bag
  change _ ⊢ runs d i _ Post
  iintro ⟨#Hlv, -, Ht, ⟨⟨%f0, H0⟩, ⟨%f1, H1⟩, ⟨%f2, H2⟩, Hbufs⟩, ⟨HsG, HsI, HsO, Hsems⟩, HO⟩
  unfold tIn
  icases Ht with ⟨Hi, Hp, Ho⟩
  ihave HO' := (owesFrom_start d i O W) $$ HO
  iapply (h0 f0 f1 f2)
  isplitr; · iexact Hlv
  isplitl [Hi]; · iexact Hi
  isplitl [H0]; · iexact H0
  isplitl [HsI]; · iexact HsI
  isplitl [HO']; · iexact HO'
  isplitl [HsG]; · iexact HsG
  isplitl [H1]; · iexact H1
  isplitl [Hp]; · iexact Hp
  isplitl [H2]; · iexact H2
  isplitl [Ho]; · iexact Ho
  isplitl [HsO]; · iexact HsO
  isplitl [Hbufs] <;> iassumption

end Tile

end Cert.Proof

end
-- ==== Proof.Call.lean ====
/-
  The SparseCore call as the launch theorem takes it: what the handshakes carry, the tiles' obligation, and how the
  arrays fall into the tiles' blocks and come together again.
-/
module

public import proofs.«01_k».proof.Proof.TileBody

@[expose] public section

set_option maxRecDepth 16384

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

section Call

variable (fi : Dev nD → S32x50x128.Idx → BitVec 32) (fp : Dev nD → S6400000.Idx → F .f32)

/-- The block of the tile `s` of SparseCore `c`. -/
abbrev widOf (c : Fin ((K (F := F)).nCore 0)) (s : Fin ((K (F := F)).nSub 0)) : Fin 32 :=
  wid (coordsV ⟨c.val, c.isLt⟩ ⟨s.val, s.isLt⟩)

/-- What the handshakes of the call carry: to each tile its blocks and a share of the table, back the blocks written. -/
def P : (K (F := F)).Pay (nD := nD) (Val := Elt F) (Name := ℕ) (U := UU) where
  st := fun q d c => match q with | 0 => bigSep Finset.univ fun s : Fin ((K (F := F)).nSub 0) => tIn (fi d) (fp d) d (widOf c s)
  dn := fun q d c => match q with | 0 => bigSep Finset.univ fun s : Fin ((K (F := F)).nSub 0) => tOut (fi d) (fp d) d (widOf c s)
  go := fun q d c s => match q with | 0 => tIn (fi d) (fp d) d (widOf c s)
  td := fun q d c s => match q with | 0 => tOut (fi d) (fp d) d (widOf c s)
  x := fun _ _ => iprop(emp)

instance P_storable : (P (F := F) fi fp).IsStorable where
  st q d c := match q with
    | 0 => (inferInstance : BI.Storable (upEmb : UEmb _ 𝕄) (bigSep Finset.univ fun s : Fin ((K (F := F)).nSub 0) => tIn (fi d) (fp d) d (widOf c s)))
  dn q d c := match q with
    | 0 => (inferInstance : BI.Storable (upEmb : UEmb _ 𝕄) (bigSep Finset.univ fun s : Fin ((K (F := F)).nSub 0) => tOut (fi d) (fp d) d (widOf c s)))
  go q d c s := match q with
    | 0 => (inferInstance : BI.Storable (upEmb : UEmb _ 𝕄) (tIn (fi d) (fp d) d (widOf c s)))
  td q d c s := match q with
    | 0 => (inferInstance : BI.Storable (upEmb : UEmb _ 𝕄) (tOut (fi d) (fp d) d (widOf c s)))

theorem vecSplit : (K (F := F)).VecSplit' (P fi fp) 0 := by
  intro d c
  show (bigSep Finset.univ fun s : Fin ((K (F := F)).nSub 0) => tIn (fi d) (fp d) d (widOf c s)) ⊢ |={Set.univ}=> iprop(
    (bigSep Finset.univ fun s : Fin ((K (F := F)).nSub 0) => tIn (fi d) (fp d) d (widOf c s))
      ∗ ((bigSep Finset.univ fun s : Fin ((K (F := F)).nSub 0) => tOut (fi d) (fp d) d (widOf c s))
        -∗ bigSep Finset.univ fun s : Fin ((K (F := F)).nSub 0) => tOut (fi d) (fp d) d (widOf c s)))
  iintro H; imodintro
  isplitl [H]; · iexact H
  iintro H; iexact H

theorem defs₀_vector (c : Fin τ.nSC) (s : Fin τ.nSub) :
    defs₀ (F := F) (.scVector c s) 2 () = SparseCore.onTile hcore2 hsub2 (fun c s => bag (F := F) (coordsV c s)) ⟨⟩ c s := by
  refine Eq.trans ?_ (congrArg (fun f => SparseCore.onTile hcore2 hsub2 f ⟨⟩ c s) (funext fun c => funext fun s => bag_eq (F := F) (coordsV c s)))
  rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hfi : ∀ d, InTable (fi d)) : (K (F := F)).TileObl (D (F := F)) 𝒱 (P fi fp) v₀ 0 := by
  intro d c s O W hO _ _
  simp only [show (P fi fp).ox = fun _ _ => 0 from rfl, add_zero]
  have hci : ((K (F := F)).core 0 c).val < grid2.bound 0 ∧ ((K (F := F)).sub 0 s).val < grid2.bound 1 := ⟨c.isLt, s.isLt⟩
  change _ ⊢ wp _ _ _ (Pipeline.liftProg (defs₀ (F := F) (.scVector ((K (F := F)).core 0 c) ((K (F := F)).sub 0 s)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (fi d) (fp d) d (coordsV ⟨_, hci.1⟩ ⟨_, hci.2⟩) facts (hfi d) O W hO).trans (wp_mono frame _ _ fun _ => obl_post)

/-! ## The arrays in blocks -/

theorem bigSep_tiles (Φ : Fin 32 → sProp 𝕄) :
    (bigSep Finset.univ fun c : Fin ((K (F := F)).nCore 0) => bigSep Finset.univ fun s : Fin ((K (F := F)).nSub 0) => Φ (widOf c s)) = bigSep Finset.univ Φ := by
  rw [← SparseCore.bigSep_product (s := Finset.univ) (t := Finset.univ) (Φ := fun p : Fin ((K (F := F)).nCore 0) × Fin ((K (F := F)).nSub 0) => Φ (widOf p.1 p.2))]
  rw [← bigSep_image_of_injOn (f := fun p : Fin ((K (F := F)).nCore 0) × Fin ((K (F := F)).nSub 0) => widOf p.1 p.2) (s := Finset.univ ×ˢ Finset.univ) ?_ Φ]
  · refine congrArg (fun S => bigSep S Φ) (Finset.eq_univ_iff_forall.mpr fun w => Finset.mem_image.mpr ?_)
    refine ⟨((⟨w.val % 2, Nat.mod_lt _ (by decide)⟩ : Fin 2), (⟨w.val / 2, by omega⟩ : Fin 16)), Finset.mem_product.mpr ⟨Finset.mem_univ _, Finset.mem_univ _⟩, Fin.ext ?_⟩
    change 2 * (w.val / 2) + w.val % 2 = w.val
    omega
  · rintro ⟨c, s⟩ - ⟨c', s'⟩ - h
    have h := congrArg Fin.val h
    change 2 * s.val + c.val = 2 * s'.val + c'.val at h
    have hc : c.val < 2 := c.isLt
    have hc' : c'.val < 2 := c'.isLt
    refine Prod.ext (Fin.ext ?_) (Fin.ext ?_)
    · change c.val = c'.val; omega
    · change s.val = s'.val; omega

theorem iSets (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet (fun a _ b _ h => Finset.disjoint_left.mpr fun y ha hb => h (Fin.ext
    ((Finset.mem_filter.mp ha).2.symm.trans (Finset.mem_filter.mp hb).2)))]
  refine congrArg (fun S => (iLoc d ↦[S]{fullShare} f : sProp 𝕄)) (Eq.symm ?_)
  refine Finset.eq_univ_iff_forall.mpr fun (y : S32x50x128.Idx) => Finset.mem_biUnion.mpr ⟨⟨(y 0).val, (y 0).isLt⟩, Finset.mem_univ _, Finset.mem_filter.mpr ⟨Finset.mem_univ _, rfl⟩⟩

theorem oSets (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet (fun a _ b _ h => Finset.disjoint_left.mpr fun y ha hb => h (Fin.ext
    ((Finset.mem_filter.mp ha).2.symm.trans (Finset.mem_filter.mp hb).2)))]
  refine congrArg (fun S => (oLoc d ↦[S]{fullShare} f : sProp 𝕄)) (Eq.symm ?_)
  refine Finset.eq_univ_iff_forall.mpr fun (y : S4096.Idx) => Finset.mem_biUnion.mpr ⟨⟨(y 0).val / 128, by have h : (y 0).val < 4096 := (y 0).isLt; omega⟩, Finset.mem_univ _, Finset.mem_filter.mpr ⟨Finset.mem_univ _, rfl⟩⟩

theorem st_eq (d : Dev nD) (c : Fin ((K (F := F)).nCore 0)) :
    (P fi fp).st 0 d c = bigSep Finset.univ fun s : Fin ((K (F := F)).nSub 0) => tIn (fi d) (fp d) d (widOf c s) := rfl
theorem dn_eq (d : Dev nD) (c : Fin ((K (F := F)).nCore 0)) :
    (P fi fp).dn 0 d c = bigSep Finset.univ fun s : Fin ((K (F := F)).nSub 0) => tOut (fi d) (fp d) d (widOf c s) := rfl

theorem pShares (d : Dev nD) (f : Buf (Elt F) (pLoc d)) :
    (pLoc d ↦{fullShare} f : sProp 𝕄) = bigSep Finset.univ fun w : Fin 32 => pLoc d ↦{pShare w} f :=
  pointsTo_piecesOf Finset.univ f (by decide) fullShare

/-- The three arrays are handed out whole. -/
theorem st_intro (d : Dev nD) (fo : Buf (Elt F) (oLoc d)) :
    iprop((iLoc d ↦{fullShare} fi d) ∗ (pLoc d ↦{fullShare} fp d) ∗ (oLoc d ↦{fullShare} fo))
      ⊢ (bigSep Finset.univ fun c : Fin ((K (F := F)).nCore 0) => (P fi fp).st 0 d c : sProp 𝕄) := by
  refine BI.Entails.trans ?_ (Entails.of_eq (bigSep_tiles (F := F) (fun w => tIn (fi d) (fp d) d w)).symm)
  unfold tIn
  rw [bigSep_sep', bigSep_sep', ← iSets, ← pShares, oSets]
  show _ ⊢ (_ : sProp 𝕄)
  iintro ⟨Hi, Hp, Ho⟩
  isplitl [Hi]; · iexact Hi
  isplitl [Hp]; · iexact Hp
  have hm : (bigSep Finset.univ fun w : Fin 32 => oLoc d ↦[oSet w]{fullShare} fo : sProp 𝕄) ⊢ bigSep Finset.univ fun w : Fin 32 => iprop(∃ f, oLoc d ↦[oSet w]{fullShare} f) :=
    bigSep_mono fun w _ => show (oLoc d ↦[oSet w]{fullShare} fo : sProp 𝕄) ⊢ iprop(∃ f, oLoc d ↦[oSet w]{fullShare} f) from by
      iintro H; iexists fo; iexact H
  iapply hm $$ Ho

/-- They come back whole, the results written. -/
theorem dn_elim (d : Dev nD) :
    (bigSep Finset.univ fun c : Fin ((K (F := F)).nCore 0) => (P fi fp).dn 0 d c : sProp 𝕄)
      ⊢ iprop((iLoc d ↦{fullShare} fi d) ∗ (pLoc d ↦{fullShare} fp d) ∗ (oLoc d ↦{fullShare} bagOut (fi d) (fp d))) := by
  refine BI.Entails.trans (Entails.of_eq (bigSep_tiles (F := F) (fun w => tOut (fi d) (fp d) d w))) ?_
  unfold tOut
  rw [bigSep_sep', bigSep_sep', ← iSets, ← pShares, ← oSets]
  show _ ⊢ (_ : sProp 𝕄)
  exact .rfl

end Call

end Cert.Proof

end
-- ==== Proof.Region.lean ====
/-
  The TensorCore's pipelines inside the program that also calls the SparseCore: one region, entered owing the
  SparseCore call's start and left owing it still, over all of the core's unscoped buffers at a valuation.
-/
module

public import proofs.«01_k».proof.Proof.Call
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.FrameSuffix
public import Idealize.ShloMosaic.Lib.Pipeline.FrameBody
public import Idealize.ShloMosaic.Lib.Pipeline.Value

@[expose] public section

set_option maxRecDepth 16384

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

open Idealize.ShloMosaic.TcCoe
open Idealize.ShloMosaic.Pipeline (Dat BodyObligation)

/-- No pipeline prefetches a table. -/
abbrev adm : (p : Fin 2) → (pcfgs (F := F) p).Adm := fun p => (cfgs p).toPCfg_adm

/-- The recorded waits the SparseCore call's start leaves room for. -/
def room (d : Dev nD) : Set (SemLoc sig × HIx 1) := {p | (K (F := F)).lev (T d, p.1) p.2 ≤ 8 * (SparseCore.Cfg.Blocks.one 1).fst 0}

/-- What the core owes before the SparseCore call. -/
def owesT (d : Dev nD) : sProp 𝕄 :=
  iprop(∃ W, ⌜(K (F := F)).WBelow (T d) W (8 * (SparseCore.Cfg.Blocks.one 1).fst 0)⌝ ∗ owes (T d) ((K (F := F)).Otc d 0) W)

theorem Otc_none (d : Dev nD) (g : GSem nD τ sig) : (K (F := F)).Otc (N := 1) d 0 g none = 0 := by
  by_contra h
  have := (K (F := F)).lev_of_Otc_pos (N := 1) (Nat.pos_of_ne_zero h)
  rw [SparseCore.Cfg.lev_none] at this
  omega

/-- The family of a program's proof data. -/
abbrev Dats (F : FTy → Type) [FloatOps F] := (p : Fin 2) → (c : Dev nD) → Dat τ (Elt F) (HIx 1) ℕ UU ℕ (Pipeline.pin (pcfgs (F := F)) adm p) c

section Reg

variable (p : Fin 2) (kit : Pipeline.LaunchFacts₀ (nD := nD) (τ := τ) cfgs p) (dats : Dats F) (V : Dev nD → Valuation τ sig (Elt F))
  (hA : ∀ c w, (dats p c).A w = V c (Proc.devRef .tc (Pipeline.arrRef (cfgs p).spec w)))
  (hq : ∀ c w, ((cfgs p).spec w).isOut = false → (dats p c).q w = Pipeline.shareOf (cfgs p).spec w)
  (hΦ : ∀ c t, (dats p c).Φ t = Pipeline.scopedRest (cfgs p).spec c)
  (howed : ∀ c t, (dats p c).owed t = (K (F := F)).Otc c 0)
  (hrec : ∀ c t, (dats p c).recorded t = room (F := F) c)
  (hbody : ∀ c, BodyObligation (dats p c) (defs₀ (F := F)) 𝒱₀ none Set.univ)

/-- The valuation a region leaves: its arrays as the flushes left them. -/
def leaves (c : Dev nD) : Valuation τ sig (Elt F) :=
  Pipeline.withArrays (cfgs p).spec c (V c) fun w => (dats p c).arrAt w (cfgs p).N

set_option backward.isDefEq.respectTransparency.types false in
/-- One region over the core's unscoped buffers. -/
def reg : Pipeline.RegionSeg (pcfgs (F := F)) adm dats none defs₀ 𝒱₀ (K (F := F)).L (K (F := F)).lev p where
  win := kit.win
  block_pos := kit.block_pos
  stage_whole := kit.stage_whole
  K := PEmpty
  osem k := k.elim
  ho := Pipeline.OwnSemFacts.none _
  hbody c := (hbody c).loose
  hwaits c := Pipeline.cellsWaits_intro _ _ _ p c fun w s t => by
    rw [howed]
    exact (K (F := F)).mayWait_none _ (Otc_none c)
  pre c := iprop(unscopedBufs c (fun b => V c b) ∗ owesT (F := F) c)
  post c := iprop(unscopedBufs c (fun b => leaves p dats V c b) ∗ owesT (F := F) c)
  X _ := BI.emp
  Y _ := BI.emp
  Z c := iprop(Pipeline.unscopedRest (Ix := HIx 1) (Name := ℕ) (U := UU) (Lvl := ℕ) (cfgs p).spec c (fun b => V c b))
  hentry c := by
    rw [Pipeline.ownSems0_none]
    have hsplit := Pipeline.arrays_of_unscopedBufs_shared (p := p) (pcfgs (F := F)) adm dats kit.win kit.sharedIn kit.arr_whole c
      (hq c) (fun b => V c b) (hA c)
    unfold owesT
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, %hW, HO⟩; iexists W; isplitr
      · ipureintro
        intro x hx
        refine Or.inl ?_
        rw [hrec]
        exact hW x hx
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays_shared (p := p) (pcfgs (F := F)) adm (Ix := HIx 1) (Name := ℕ) (U := UU) (Lvl := ℕ) kit.win kit.sharedIn kit.arr_whole c
      dats (hq c) (fun b => V c b) (fun b => leaves p dats V c b) ((dats p c).arrAt · (cfgs p).N)
      (fun w => ((dats p c).withArrays_arrAt kit.sharedIn (V c) (hA c) w).symm)
      (fun b hb => Pipeline.withArrays_of_ne _ c _ _ b fun w h => hb (h ▸ Finset.mem_image.mpr ⟨w, Finset.mem_univ _, rfl⟩))
    unfold owesT
    iintro ⟨Ha, HO, -, Hrest⟩
    imodintro
    isplitl [Ha Hrest]
    · iapply hjoin; isplitl [Ha] <;> iassumption
    unfold Pipeline.Dat.owesAt Pipeline.owesWithin
    rw [howed]
    icases HO with ⟨%W, %hW, HO⟩; iexists W
    isplitr
    · ipureintro
      intro x hx
      rcases hW hx with h | ⟨w, s, rfl⟩
      · rw [hrec] at h; exact h
      · rw [SparseCore.Cfg.lev_none]; exact Nat.zero_le _
    iexact HO

theorem wp_entry (c : Dev nD) (Φ : PUnit → sProp 𝕄) :
    wp frame (wpE (D (F := F)) 𝒱 (T c) none) Set.univ (.op (.customCall (Pipeline.entry p) ()) fun _ => .ret ⟨⟩) Φ
      ⊢ wp frame (wpE ((K (F := F)).defs (D (F := F))) 𝒱 (T c) none) Set.univ
          (Prog.lift (.customCall (SparseCore.inner (Pipeline.entry p)) ())) Φ := by
  have h := (K (F := F)).wp_liftProg (D (F := F)) 𝒱 (T c) Set.univ none (.op (.customCall (Pipeline.entry p) ()) fun _ => .ret ⟨⟩) Φ
  rw [SparseCore.liftProg_op] at h
  exact h

theorem reg_pre (c : Dev nD) : (reg p kit dats V hA hq hΦ howed hrec hbody).pre c = iprop(unscopedBufs c (fun b => V c b) ∗ owesT (F := F) c) := rfl
theorem reg_post (c : Dev nD) : (reg p kit dats V hA hq hΦ howed hrec hbody).post c
    = iprop(unscopedBufs c (fun b => leaves p dats V c b) ∗ owesT (F := F) c) := rfl

include kit hA hq hΦ howed hrec hbody in
/-- A region run in the program with the SparseCore call. -/
theorem wp_region (c : Dev nD) (Φ : PUnit → sProp 𝕄) :
    iprop((iprop(boundary (T c) ∗ unscopedBufs c (fun b => leaves p dats V c b) ∗ owesT (F := F) c) -∗ Φ ⟨⟩)
        ∗ boundary (T c) ∗ unscopedBufs c (fun b => V c b) ∗ owesT (F := F) c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (T c) none) Set.univ
          (Prog.lift (.customCall (SparseCore.inner (Pipeline.entry p)) ())) Φ := by
  have h := (reg p kit dats V hA hq hΦ howed hrec hbody).wp (pcfgs (F := F)) adm dats none cellOf_inj EP defs₀ 𝒱₀ (K (F := F)).L (K (F := F)).lev c none
    (fun u hu => by simp at hu) (fun _ => .ret ⟨⟩) Φ
  rw [reg_pre, reg_post] at h
  refine BI.Entails.trans ?_ (wp_entry p c Φ)
  refine BI.Entails.trans ?_ h
  show _ ⊢ (_ : sProp 𝕄)
  iintro ⟨Hk, Hb, Hu, Ho, Hl, Hg, Ht⟩
  isplitl [Hk]
  · iintro ⟨Hb, Hp⟩
    rw [wp_ret]
    imodintro
    iapply Hk
    isplitl [Hb]; · iexact Hb
    iexact Hp
  isplitl [Hb]; · iexact Hb
  isplitl [Hu Ho]
  · isplitl [Hu]; · iexact Hu
    iexact Ho
  isplitl [Hl]; · iexact Hl
  isplitl [Hg]; · iexact Hg
  iexact Ht

end Reg

end Cert.Proof

end
-- ==== Proof.Fold.lean ====
/-
  The first TensorCore pipeline: the dense layers folded into one vector and one bias.
-/
module

public import proofs.«01_k».proof.Proof.Region
public import Idealize.ShloMosaic.Lib.VecWindow
public import Idealize.ShloMosaic.Lib.Pipeline.Value
public import Idealize.ShloMosaic.Lib.Pipeline.ValueKit

@[expose] public section

set_option maxRecDepth 16384

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

open Idealize.ShloMosaic.TcCoe
open Idealize.ShloMosaic.Pipeline (Dat BodyObligation)

/-- One store over the whole of a buffer leaves its payload. -/
theorem read_store {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans (View.canon_unit_zero h inb w)

/-- The zero offsets of a rank-two buffer. -/
theorem zero2 : (![0, 0] : Fin 2 → Nat) = fun _ => 0 := by decide

section Run

variable (c : Dev nD)
  (M0 : Memref sig .tc .vmem S3200x32 .f32) (h0 : M0.IsWhole) (M1 : Memref sig .tc .vmem S32x32 .f32) (h1 : M1.IsWhole)
  (M2 : Memref sig .tc .vmem S32x1 .f32) (h2 : M2.IsWhole) (M3 : Memref sig .tc .vmem S1x32 .f32) (h3 : M3.IsWhole)
  (M4 : Memref sig .tc .vmem S1x32 .f32) (h4 : M4.IsWhole) (M5 : Memref sig .tc .vmem S1x1 .f32) (h5 : M5.IsWhole)
  (M6 : Memref sig .tc .vmem S3200x1 .f32) (h6 : M6.IsWhole) (M7 : Memref sig .tc .vmem S1x1 .f32) (h7 : M7.IsWhole)

/-- A memref held whole with contents that read as `X`. -/
abbrev own {sp : Space} {S : Shape} {e : EltTy} (M : Memref sig .tc sp S e) (X : S.Idx → Elt F e) : sProp 𝕄 := owns (T c) M fullShare X

theorem fold_run (X0 : Vec F S3200x32 .f32) (X1 : Vec F S32x32 .f32) (X2 : Vec F S32x1 .f32) (X3 : Vec F S1x32 .f32) (X4 : Vec F S1x32 .f32)
    (X5 : Vec F S1x1 .f32) (X6 : Vec F S3200x1 .f32) (X7 : Vec F S1x1 .f32) (Q : PUnit → sProp 𝕄) :
    iprop(own c M0 X0 ∗ own c M1 X1 ∗ own c M2 X2 ∗ own c M3 X3 ∗ own c M4 X4 ∗ own c M5 X5 ∗ own c M6 X6 ∗ own c M7 X7
      ∗ (iprop(own c M0 X0 ∗ own c M1 X1 ∗ own c M2 X2 ∗ own c M3 X3 ∗ own c M4 X4 ∗ own c M5 X5
          ∗ own c M6 (k0_pay2 X1 X2 X0) ∗ own c M7 (k0_pay3 X1 X2 X3 X4 X2 X5)) -∗ Q ⟨⟩))
      ⊢ wp frame (wpE (defs₀ (F := F)) 𝒱₀ (T c) none) Set.univ
          (cc0__fold_body M0 h0 M1 h1 M2 h2 M3 h3 M4 h4 M5 h5 M6 h6 M7 h7) Q := by
  rw [cc0__fold_body_eq_skeleton]
  unfold own owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, -, H6⟩, ⟨%f7, -, H7⟩, Hk⟩
  unfold cc0__fold_body_skel
  sl_exec!
  sl_step
  iapply Hk
  isplitl [H0]; · iexists _; isplitr; · ipureintro; exact e0
                  iexact H0
  isplitl [H1]; · iexists _; isplitr; · ipureintro; exact e1
                  iexact H1
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  subst e0 e1 e2 e3 e4 e5
  isplitl [H6]
  · iexists _
    isplitr
    swap
    · iexact H6
    ipureintro
    refine (read_store M6.view _ zero2 _ _).trans ?_
    exact congr (congr (congrArg k0_pay2 (View.readAt_full M1.view f1 inb_S32x32_S32x32_0_0)) (View.readAt_full M2.view f2 inb_S32x1_S32x1_0_0))
      (View.readAt_full M0.view f0 inb_S3200x32_S3200x32_0_0)
  iexists _
  isplitr
  swap
  · iexact H7
  ipureintro
  refine (read_store M7.view _ zero2 _ _).trans ?_
  exact congr (congr (congr (congr (congr (congrArg k0_pay3 (View.readAt_full M1.view f1 inb_S32x32_S32x32_0_0))
    (View.readAt_full M2.view f2 inb_S32x1_S32x1_0_0)) (View.readAt_full M3.view f3 inb_S1x32_S1x32_0_0)) (View.readAt_full M4.view f4 inb_S1x32_S1x32_0_0))
    (View.readAt_full M2.view f2 inb_S32x1_S32x1_0_0)) (View.readAt_full M5.view f5 inb_S1x1_S1x1_0_0)

end Run

/-! ## The pipeline's proof data -/

/-- The folded weights' vector and the folded bias, from the contents of the six arrays. -/
abbrev foldV (X0 : Vec F S3200x32 .f32) (X1 : Vec F S32x32 .f32) (X2 : Vec F S32x1 .f32) : Vec F S3200x1 .f32 := k0_pay2 X1 X2 X0
abbrev foldC (X1 : Vec F S32x32 .f32) (X2 : Vec F S32x1 .f32) (X3 X4 : Vec F S1x32 .f32) (X5 : Vec F S1x1 .f32) : Vec F S1x1 .f32 :=
  k0_pay3 X1 X2 X3 X4 X2 X5

variable (V : Dev nD → Valuation τ sig (Elt F))

/-- The six inputs' blocks at their own shapes. -/
abbrev in0_0 (c : Dev nD) (t : Fin cfg0.N) : Vec F S3200x32 .f32 := ((cfg0.win 0).blk t).view.read (Elt F) (V c (Proc.devRef .tc (Pipeline.arrRef spec0 0)))
abbrev in0_1 (c : Dev nD) (t : Fin cfg0.N) : Vec F S32x32 .f32 := ((cfg0.win 1).blk t).view.read (Elt F) (V c (Proc.devRef .tc (Pipeline.arrRef spec0 1)))
abbrev in0_2 (c : Dev nD) (t : Fin cfg0.N) : Vec F S32x1 .f32 := ((cfg0.win 2).blk t).view.read (Elt F) (V c (Proc.devRef .tc (Pipeline.arrRef spec0 2)))
abbrev in0_3 (c : Dev nD) (t : Fin cfg0.N) : Vec F S1x32 .f32 := ((cfg0.win 3).blk t).view.read (Elt F) (V c (Proc.devRef .tc (Pipeline.arrRef spec0 3)))
abbrev in0_4 (c : Dev nD) (t : Fin cfg0.N) : Vec F S1x32 .f32 := ((cfg0.win 4).blk t).view.read (Elt F) (V c (Proc.devRef .tc (Pipeline.arrRef spec0 4)))
abbrev in0_5 (c : Dev nD) (t : Fin cfg0.N) : Vec F S1x1 .f32 := ((cfg0.win 5).blk t).view.read (Elt F) (V c (Proc.devRef .tc (Pipeline.arrRef spec0 5)))

/-- The first pipeline's proof data: arrays at the valuation; after the body the inputs as fetched and the two results
    at the payloads. -/
def dat0 (c : Dev nD) : Dat τ (Elt F) (HIx 1) ℕ UU ℕ cfg0 c where
  A w := V c (Proc.devRef .tc (Pipeline.arrRef spec0 w))
  after w t := match w with
    | ⟨0, _⟩ => in0_0 V c t
    | ⟨1, _⟩ => in0_1 V c t
    | ⟨2, _⟩ => in0_2 V c t
    | ⟨3, _⟩ => in0_3 V c t
    | ⟨4, _⟩ => in0_4 V c t
    | ⟨5, _⟩ => in0_5 V c t
    | ⟨6, _⟩ => foldV (in0_0 V c t) (in0_1 V c t) (in0_2 V c t)
    | ⟨7, _⟩ => foldC (in0_1 V c t) (in0_2 V c t) (in0_3 V c t) (in0_4 V c t) (in0_5 V c t)
  Φ _ := Pipeline.scopedRest spec0 c
  q w := Pipeline.shareOf spec0 w
  owed _ := (K (F := F)).Otc c 0
  recorded _ := room (F := F) c

theorem before0_0 (c : Dev nD) (t : Fin cfg0.N) (d : (cfg0.win 0).block.Idx → Elt F (cfg0.win 0).elt) : (dat0 V c).before 0 t d = in0_0 V c t := by
  unfold Dat.before; rw [if_pos (fetch0_0 t)]; unfold Dat.fetched Dat.blockOf; dsimp only [dat0]; rfl
theorem before0_1 (c : Dev nD) (t : Fin cfg0.N) (d : (cfg0.win 1).block.Idx → Elt F (cfg0.win 1).elt) : (dat0 V c).before 1 t d = in0_1 V c t := by
  unfold Dat.before; rw [if_pos (fetch0_1 t)]; unfold Dat.fetched Dat.blockOf; dsimp only [dat0]; rfl
theorem before0_2 (c : Dev nD) (t : Fin cfg0.N) (d : (cfg0.win 2).block.Idx → Elt F (cfg0.win 2).elt) : (dat0 V c).before 2 t d = in0_2 V c t := by
  unfold Dat.before; rw [if_pos (fetch0_2 t)]; unfold Dat.fetched Dat.blockOf; dsimp only [dat0]; rfl
theorem before0_3 (c : Dev nD) (t : Fin cfg0.N) (d : (cfg0.win 3).block.Idx → Elt F (cfg0.win 3).elt) : (dat0 V c).before 3 t d = in0_3 V c t := by
  unfold Dat.before; rw [if_pos (fetch0_3 t)]; unfold Dat.fetched Dat.blockOf; dsimp only [dat0]; rfl
theorem before0_4 (c : Dev nD) (t : Fin cfg0.N) (d : (cfg0.win 4).block.Idx → Elt F (cfg0.win 4).elt) : (dat0 V c).before 4 t d = in0_4 V c t := by
  unfold Dat.before; rw [if_pos (fetch0_4 t)]; unfold Dat.fetched Dat.blockOf; dsimp only [dat0]; rfl
theorem before0_5 (c : Dev nD) (t : Fin cfg0.N) (d : (cfg0.win 5).block.Idx → Elt F (cfg0.win 5).elt) : (dat0 V c).before 5 t d = in0_5 V c t := by
  unfold Dat.before; rw [if_pos (fetch0_5 t)]; unfold Dat.fetched Dat.blockOf; dsimp only [dat0]; rfl

theorem body0 (c : Dev nD) : BodyObligation (dat0 V c) (defs₀ (F := F)) 𝒱₀ none Set.univ := fun t => by
  rw [bigSep_W0, bigSep_W0]
  show _ ⊢ wp frame _ _ _ (fun _ => iprop((dat0 V c).Φ t.castSucc ∗ (dat0 V c).owesAt none t.castSucc
    ∗ own c (win0_0.stage (cfg0.slots t 0)) (in0_0 V c t) ∗ own c (win0_1.stage (cfg0.slots t 1)) (in0_1 V c t) ∗ own c (win0_2.stage (cfg0.slots t 2)) (in0_2 V c t) ∗ own c (win0_3.stage (cfg0.slots t 3)) (in0_3 V c t) ∗ own c (win0_4.stage (cfg0.slots t 4)) (in0_4 V c t) ∗ own c (win0_5.stage (cfg0.slots t 5)) (in0_5 V c t) ∗ own c (win0_6.stage (cfg0.slots t 6)) (foldV (in0_0 V c t) (in0_1 V c t) (in0_2 V c t)) ∗ own c (win0_7.stage (cfg0.slots t 7)) (foldC (in0_1 V c t) (in0_2 V c t) (in0_3 V c t) (in0_4 V c t) (in0_5 V c t))))
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (Entails.of_eq (congrArg (owns _ _ _) (before0_0 V c t d0))) $$ H0
  ihave H1 := (Entails.of_eq (congrArg (owns _ _ _) (before0_1 V c t d1))) $$ H1
  ihave H2 := (Entails.of_eq (congrArg (owns _ _ _) (before0_2 V c t d2))) $$ H2
  ihave H3 := (Entails.of_eq (congrArg (owns _ _ _) (before0_3 V c t d3))) $$ H3
  ihave H4 := (Entails.of_eq (congrArg (owns _ _ _) (before0_4 V c t d4))) $$ H4
  ihave H5 := (Entails.of_eq (congrArg (owns _ _ _) (before0_5 V c t d5))) $$ H5
  iapply (fold_run c _ (hstage0_0 0) _ (hstage0_1 0) _ (hstage0_2 0) _ (hstage0_3 0) _ (hstage0_4 0) _ (hstage0_5 0) _ (hstage0_6 0) _ (hstage0_7 0)
    (in0_0 V c t) (in0_1 V c t) (in0_2 V c t) (in0_3 V c t) (in0_4 V c t) (in0_5 V c t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof

end
-- ==== Proof.Proj.lean ====
/-
  The second TensorCore pipeline: every table row against the folded vector's columns, plus the bias.
-/
module

public import proofs.«01_k».proof.Proof.Fold
public import Idealize.ShloMosaic.Lib.VecWindow
public import Idealize.ShloMosaic.Lib.Pipeline.Value
public import Idealize.ShloMosaic.Lib.Pipeline.ValueKit

@[expose] public section

set_option maxRecDepth 16384

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

open Idealize.ShloMosaic.TcCoe
open Idealize.ShloMosaic.Pipeline (Dat BodyObligation)

/-- Three zero offsets. -/
theorem zero3 : (![0, 0, 0] : Fin 3 → Nat) = fun _ => 0 := by decide

/-- One block of table rows projected: the rows against the folded columns, plus the bias. -/
abbrev projRow (Y : Vec F S1x2000x64 .f32) (X0 : Vec F S64x64 .f32) (X1 : Vec F S1x1 .f32) : Vec F S1x2000x64 .f32 := k1_pay1 Y X0 X1

/-- The index of a row block's element. -/
abbrev rowIx (a : Fin 2000) (b : Fin 64) : S1x2000x64.Idx := ValueIdx.ix3 (0 : Fin 1) a b

/-- Ten row blocks stacked. -/
def stack (W : Fin 10 → Vec F S1x2000x64 .f32) : Vec F S10x2000x64 .f32 := fun x => W (x (0 : Fin 3)) (rowIx (x (1 : Fin 3)) (x (2 : Fin 3)))

/-- The ten row blocks' projections stacked. -/
def projBlk (X0 : Vec F S64x64 .f32) (X1 : Vec F S1x1 .f32) (Y : Fin 10 → Vec F S1x2000x64 .f32) : Vec F S10x2000x64 .f32 :=
  stack fun k => projRow (Y k) X0 X1

/-- A row block's payload is the stack's part there. -/
theorem stack_row (W : Fin 10 → Vec F S1x2000x64 .f32) (k : Fin 10) (off : Fin 3 → Nat) (h : off = ![k.val, 0, 0])
    (inb : ∀ a, off a + S1x2000x64.size a ≤ S10x2000x64.size a) (x : S1x2000x64.Idx) :
    W k x = stack W ((Rect.unit (s := S10x2000x64) off S1x2000x64.size inb).emb x) := by
  subst h
  have e0 : (Rect.unit (s := S10x2000x64) ![k.val, 0, 0] S1x2000x64.size inb).emb x (0 : Fin 3) = k :=
    Fin.ext (by
      have : (x (0 : Fin 3)).val < 1 := (x (0 : Fin 3)).isLt
      show k.val + 1 * (x (0 : Fin 3)).val = k.val
      omega)
  unfold stack
  rw [e0]
  refine congrArg (W k) (funext fun a => Fin.ext ?_)
  fin_cases a
  · have : (x (0 : Fin 3)).val < 1 := (x (0 : Fin 3)).isLt
    show (x (0 : Fin 3)).val = 0
    omega
  · show (x (1 : Fin 3)).val = 0 + 1 * (x (1 : Fin 3)).val
    omega
  · show (x (2 : Fin 3)).val = 0 + 1 * (x (2 : Fin 3)).val
    omega

/-- Every index is in its row block's rectangle. -/
theorem row_mem (y : S10x2000x64.Idx) (k : Nat) (hk : (y (0 : Fin 3)).val = k) (inb : ∀ a, (![k, 0, 0] : Fin 3 → Nat) a + S1x2000x64.size a ≤ S10x2000x64.size a) :
    y ∈ (Rect.unit (s := S10x2000x64) ![k, 0, 0] S1x2000x64.size inb).set := by
  rw [Rect.mem_set_unit]
  intro a
  fin_cases a
  · show k ≤ (y (0 : Fin 3)).val ∧ (y (0 : Fin 3)).val < k + 1
    omega
  · have : (y (1 : Fin 3)).val < 2000 := (y (1 : Fin 3)).isLt
    show 0 ≤ (y (1 : Fin 3)).val ∧ (y (1 : Fin 3)).val < 0 + 2000
    omega
  · have : (y (2 : Fin 3)).val < 64 := (y (2 : Fin 3)).isLt
    show 0 ≤ (y (2 : Fin 3)).val ∧ (y (2 : Fin 3)).val < 0 + 64
    omega

/-- Ten stores, one per row block, leave the stack of their payloads. -/
theorem read_rows (v : View sig .tc .vmem S10x2000x64 .f32) (f : v.ty.Contents (Elt F)) (w0 w1 w2 w3 w4 w5 w6 w7 w8 w9 : Vec F S1x2000x64 .f32) :
    v.read (Elt F) (v.writes (Elt F) f [
      ⟨Rect.unit (s := S10x2000x64) ![9, 0, 0] S1x2000x64.size inb_S10x2000x64_S1x2000x64_9_0_0, w9⟩,
      ⟨Rect.unit (s := S10x2000x64) ![8, 0, 0] S1x2000x64.size inb_S10x2000x64_S1x2000x64_8_0_0, w8⟩,
      ⟨Rect.unit (s := S10x2000x64) ![7, 0, 0] S1x2000x64.size inb_S10x2000x64_S1x2000x64_7_0_0, w7⟩,
      ⟨Rect.unit (s := S10x2000x64) ![6, 0, 0] S1x2000x64.size inb_S10x2000x64_S1x2000x64_6_0_0, w6⟩,
      ⟨Rect.unit (s := S10x2000x64) ![5, 0, 0] S1x2000x64.size inb_S10x2000x64_S1x2000x64_5_0_0, w5⟩,
      ⟨Rect.unit (s := S10x2000x64) ![4, 0, 0] S1x2000x64.size inb_S10x2000x64_S1x2000x64_4_0_0, w4⟩,
      ⟨Rect.unit (s := S10x2000x64) ![3, 0, 0] S1x2000x64.size inb_S10x2000x64_S1x2000x64_3_0_0, w3⟩,
      ⟨Rect.unit (s := S10x2000x64) ![2, 0, 0] S1x2000x64.size inb_S10x2000x64_S1x2000x64_2_0_0, w2⟩,
      ⟨Rect.unit (s := S10x2000x64) ![1, 0, 0] S1x2000x64.size inb_S10x2000x64_S1x2000x64_1_0_0, w1⟩,
      ⟨Rect.unit (s := S10x2000x64) ![0, 0, 0] S1x2000x64.size inb_S10x2000x64_S1x2000x64_0_0_0, w0⟩])
      = stack ![w0, w1, w2, w3, w4, w5, w6, w7, w8, w9] := by
  have key : ∀ y : S10x2000x64.Idx, ∃ p ∈ ([
      ⟨Rect.unit (s := S10x2000x64) ![9, 0, 0] S1x2000x64.size inb_S10x2000x64_S1x2000x64_9_0_0, w9⟩,
      ⟨Rect.unit (s := S10x2000x64) ![8, 0, 0] S1x2000x64.size inb_S10x2000x64_S1x2000x64_8_0_0, w8⟩,
      ⟨Rect.unit (s := S10x2000x64) ![7, 0, 0] S1x2000x64.size inb_S10x2000x64_S1x2000x64_7_0_0, w7⟩,
      ⟨Rect.unit (s := S10x2000x64) ![6, 0, 0] S1x2000x64.size inb_S10x2000x64_S1x2000x64_6_0_0, w6⟩,
      ⟨Rect.unit (s := S10x2000x64) ![5, 0, 0] S1x2000x64.size inb_S10x2000x64_S1x2000x64_5_0_0, w5⟩,
      ⟨Rect.unit (s := S10x2000x64) ![4, 0, 0] S1x2000x64.size inb_S10x2000x64_S1x2000x64_4_0_0, w4⟩,
      ⟨Rect.unit (s := S10x2000x64) ![3, 0, 0] S1x2000x64.size inb_S10x2000x64_S1x2000x64_3_0_0, w3⟩,
      ⟨Rect.unit (s := S10x2000x64) ![2, 0, 0] S1x2000x64.size inb_S10x2000x64_S1x2000x64_2_0_0, w2⟩,
      ⟨Rect.unit (s := S10x2000x64) ![1, 0, 0] S1x2000x64.size inb_S10x2000x64_S1x2000x64_1_0_0, w1⟩,
      ⟨Rect.unit (s := S10x2000x64) ![0, 0, 0] S1x2000x64.size inb_S10x2000x64_S1x2000x64_0_0_0, w0⟩] : List (View.Piece (Elt F) S10x2000x64 .f32)), y ∈ p.1.set := by
    intro y
    have hy : (y (0 : Fin 3)).val < 10 := (y (0 : Fin 3)).isLt
    obtain h | h | h | h | h | h | h | h | h | h : (y (0 : Fin 3)).val = 0 ∨ (y (0 : Fin 3)).val = 1 ∨ (y (0 : Fin 3)).val = 2 ∨ (y (0 : Fin 3)).val = 3 ∨ (y (0 : Fin 3)).val = 4 ∨ (y (0 : Fin 3)).val = 5 ∨ (y (0 : Fin 3)).val = 6 ∨ (y (0 : Fin 3)).val = 7 ∨ (y (0 : Fin 3)).val = 8 ∨ (y (0 : Fin 3)).val = 9 := by omega
    · exact ⟨⟨Rect.unit (s := S10x2000x64) ![0, 0, 0] S1x2000x64.size inb_S10x2000x64_S1x2000x64_0_0_0, w0⟩, by simp, row_mem y 0 h inb_S10x2000x64_S1x2000x64_0_0_0⟩
    · exact ⟨⟨Rect.unit (s := S10x2000x64) ![1, 0, 0] S1x2000x64.size inb_S10x2000x64_S1x2000x64_1_0_0, w1⟩, by simp, row_mem y 1 h inb_S10x2000x64_S1x2000x64_1_0_0⟩
    · exact ⟨⟨Rect.unit (s := S10x2000x64) ![2, 0, 0] S1x2000x64.size inb_S10x2000x64_S1x2000x64_2_0_0, w2⟩, by simp, row_mem y 2 h inb_S10x2000x64_S1x2000x64_2_0_0⟩
    · exact ⟨⟨Rect.unit (s := S10x2000x64) ![3, 0, 0] S1x2000x64.size inb_S10x2000x64_S1x2000x64_3_0_0, w3⟩, by simp, row_mem y 3 h inb_S10x2000x64_S1x2000x64_3_0_0⟩
    · exact ⟨⟨Rect.unit (s := S10x2000x64) ![4, 0, 0] S1x2000x64.size inb_S10x2000x64_S1x2000x64_4_0_0, w4⟩, by simp, row_mem y 4 h inb_S10x2000x64_S1x2000x64_4_0_0⟩
    · exact ⟨⟨Rect.unit (s := S10x2000x64) ![5, 0, 0] S1x2000x64.size inb_S10x2000x64_S1x2000x64_5_0_0, w5⟩, by simp, row_mem y 5 h inb_S10x2000x64_S1x2000x64_5_0_0⟩
    · exact ⟨⟨Rect.unit (s := S10x2000x64) ![6, 0, 0] S1x2000x64.size inb_S10x2000x64_S1x2000x64_6_0_0, w6⟩, by simp, row_mem y 6 h inb_S10x2000x64_S1x2000x64_6_0_0⟩
    · exact ⟨⟨Rect.unit (s := S10x2000x64) ![7, 0, 0] S1x2000x64.size inb_S10x2000x64_S1x2000x64_7_0_0, w7⟩, by simp, row_mem y 7 h inb_S10x2000x64_S1x2000x64_7_0_0⟩
    · exact ⟨⟨Rect.unit (s := S10x2000x64) ![8, 0, 0] S1x2000x64.size inb_S10x2000x64_S1x2000x64_8_0_0, w8⟩, by simp, row_mem y 8 h inb_S10x2000x64_S1x2000x64_8_0_0⟩
    · exact ⟨⟨Rect.unit (s := S10x2000x64) ![9, 0, 0] S1x2000x64.size inb_S10x2000x64_S1x2000x64_9_0_0, w9⟩, by simp, row_mem y 9 h inb_S10x2000x64_S1x2000x64_9_0_0⟩
  rw [View.read_writes_eq_canon v f _ key]
  funext y
  refine View.canon_apply_of_pieces _ _ ?_ y (key y)
  simp only [List.forall_mem_cons]
  refine ⟨fun x => stack_row ![w0, w1, w2, w3, w4, w5, w6, w7, w8, w9] 9 _ rfl inb_S10x2000x64_S1x2000x64_9_0_0 x, fun x => stack_row ![w0, w1, w2, w3, w4, w5, w6, w7, w8, w9] 8 _ rfl inb_S10x2000x64_S1x2000x64_8_0_0 x, fun x => stack_row ![w0, w1, w2, w3, w4, w5, w6, w7, w8, w9] 7 _ rfl inb_S10x2000x64_S1x2000x64_7_0_0 x, fun x => stack_row ![w0, w1, w2, w3, w4, w5, w6, w7, w8, w9] 6 _ rfl inb_S10x2000x64_S1x2000x64_6_0_0 x, fun x => stack_row ![w0, w1, w2, w3, w4, w5, w6, w7, w8, w9] 5 _ rfl inb_S10x2000x64_S1x2000x64_5_0_0 x, fun x => stack_row ![w0, w1, w2, w3, w4, w5, w6, w7, w8, w9] 4 _ rfl inb_S10x2000x64_S1x2000x64_4_0_0 x, fun x => stack_row ![w0, w1, w2, w3, w4, w5, w6, w7, w8, w9] 3 _ rfl inb_S10x2000x64_S1x2000x64_3_0_0 x, fun x => stack_row ![w0, w1, w2, w3, w4, w5, w6, w7, w8, w9] 2 _ rfl inb_S10x2000x64_S1x2000x64_2_0_0 x, fun x => stack_row ![w0, w1, w2, w3, w4, w5, w6, w7, w8, w9] 1 _ rfl inb_S10x2000x64_S1x2000x64_1_0_0 x, fun x => stack_row ![w0, w1, w2, w3, w4, w5, w6, w7, w8, w9] 0 _ rfl inb_S10x2000x64_S1x2000x64_0_0_0 x, fun _ h => absurd h List.not_mem_nil⟩

section Run

variable (c : Dev nD) (i : grid1.Coords)
  (M0 : Memref sig .tc .vmem S64x64 .f32) (h0 : M0.IsWhole) (M1 : Memref sig .tc .vmem S1x1 .f32) (h1 : M1.IsWhole)
  (M2 : Memref sig .tc .vmem S1x2000x64 .f32) (h2 : M2.IsWhole)
  (M3 : Memref sig .tc .vmem S1x2000x64 .f32) (h3 : M3.IsWhole)
  (M4 : Memref sig .tc .vmem S1x2000x64 .f32) (h4 : M4.IsWhole)
  (M5 : Memref sig .tc .vmem S1x2000x64 .f32) (h5 : M5.IsWhole)
  (M6 : Memref sig .tc .vmem S1x2000x64 .f32) (h6 : M6.IsWhole)
  (M7 : Memref sig .tc .vmem S1x2000x64 .f32) (h7 : M7.IsWhole)
  (M8 : Memref sig .tc .vmem S1x2000x64 .f32) (h8 : M8.IsWhole)
  (M9 : Memref sig .tc .vmem S1x2000x64 .f32) (h9 : M9.IsWhole)
  (M10 : Memref sig .tc .vmem S1x2000x64 .f32) (h10 : M10.IsWhole)
  (M11 : Memref sig .tc .vmem S1x2000x64 .f32) (h11 : M11.IsWhole)
  (M12 : Memref sig .tc .vmem S10x2000x64 .f32) (h12 : M12.IsWhole)

set_option maxHeartbeats 1000000 in
theorem proj_run (X0 : Vec F S64x64 .f32) (X1 : Vec F S1x1 .f32) (Y0 Y1 Y2 Y3 Y4 Y5 Y6 Y7 Y8 Y9 : Vec F S1x2000x64 .f32) (X12 : Vec F S10x2000x64 .f32) (Q : PUnit → sProp 𝕄) :
    iprop(own c M0 X0 ∗ own c M1 X1 ∗ own c M2 Y0 ∗ own c M3 Y1 ∗ own c M4 Y2 ∗ own c M5 Y3 ∗ own c M6 Y4 ∗ own c M7 Y5 ∗ own c M8 Y6 ∗ own c M9 Y7 ∗ own c M10 Y8 ∗ own c M11 Y9 ∗ own c M12 X12
      ∗ (iprop(own c M0 X0 ∗ own c M1 X1 ∗ own c M2 Y0 ∗ own c M3 Y1 ∗ own c M4 Y2 ∗ own c M5 Y3 ∗ own c M6 Y4 ∗ own c M7 Y5 ∗ own c M8 Y6 ∗ own c M9 Y7 ∗ own c M10 Y8 ∗ own c M11 Y9 ∗ own c M12 (projBlk X0 X1 ![Y0, Y1, Y2, Y3, Y4, Y5, Y6, Y7, Y8, Y9])) -∗ Q ⟨⟩))
      ⊢ wp frame (wpE (defs₀ (F := F)) 𝒱₀ (T c) none) Set.univ
          (cc1__proj_body i M0 h0 M1 h1 M2 h2 M3 h3 M4 h4 M5 h5 M6 h6 M7 h7 M8 h8 M9 h9 M10 h10 M11 h11 M12 h12) Q := by
  rw [cc1__proj_body_eq_skeleton]
  unfold own owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, -, H12⟩, Hk⟩
  unfold cc1__proj_body_skel
  simp only [k1_part1_eq_skeleton, k1_part2_eq_skeleton, k1_part3_eq_skeleton, k1_part4_eq_skeleton]
  unfold k1_part1_skel k1_part2_skel k1_part3_skel k1_part4_skel
  sl_exec!
  sl_step
  iapply Hk
  isplitl [H0]
  · iexists _
    isplitr
    · ipureintro; exact e0
    iexact H0
  isplitl [H1]
  · iexists _
    isplitr
    · ipureintro; exact e1
    iexact H1
  isplitl [H2]
  · iexists _
    isplitr
    · ipureintro; exact e2
    iexact H2
  isplitl [H3]
  · iexists _
    isplitr
    · ipureintro; exact e3
    iexact H3
  isplitl [H4]
  · iexists _
    isplitr
    · ipureintro; exact e4
    iexact H4
  isplitl [H5]
  · iexists _
    isplitr
    · ipureintro; exact e5
    iexact H5
  isplitl [H6]
  · iexists _
    isplitr
    · ipureintro; exact e6
    iexact H6
  isplitl [H7]
  · iexists _
    isplitr
    · ipureintro; exact e7
    iexact H7
  isplitl [H8]
  · iexists _
    isplitr
    · ipureintro; exact e8
    iexact H8
  isplitl [H9]
  · iexists _
    isplitr
    · ipureintro; exact e9
    iexact H9
  isplitl [H10]
  · iexists _
    isplitr
    · ipureintro; exact e10
    iexact H10
  isplitl [H11]
  · iexists _
    isplitr
    · ipureintro; exact e11
    iexact H11
  subst e0 e1 e2 e3 e4 e5 e6 e7 e8 e9 e10 e11
  iexists _
  isplitr
  swap
  · iexact H12
  ipureintro
  refine (read_rows M12.view _ _ _ _ _ _ _ _ _ _ _ ).trans ?_
  unfold projBlk
  refine congrArg stack (funext fun k => ?_)
  fin_cases k
  · exact congr (congr (congrArg k1_pay1 (View.readAt_full M2.view f2 inb_S1x2000x64_S1x2000x64_0_0_0)) (View.readAt_full M0.view f0 inb_S64x64_S64x64_0_0))
      (View.readAt_full M1.view f1 inb_S1x1_S1x1_0_0)
  · exact congr (congr (congrArg k1_pay1 (View.readAt_full M3.view f3 inb_S1x2000x64_S1x2000x64_0_0_0)) (View.readAt_full M0.view f0 inb_S64x64_S64x64_0_0))
      (View.readAt_full M1.view f1 inb_S1x1_S1x1_0_0)
  · exact congr (congr (congrArg k1_pay1 (View.readAt_full M4.view f4 inb_S1x2000x64_S1x2000x64_0_0_0)) (View.readAt_full M0.view f0 inb_S64x64_S64x64_0_0))
      (View.readAt_full M1.view f1 inb_S1x1_S1x1_0_0)
  · exact congr (congr (congrArg k1_pay1 (View.readAt_full M5.view f5 inb_S1x2000x64_S1x2000x64_0_0_0)) (View.readAt_full M0.view f0 inb_S64x64_S64x64_0_0))
      (View.readAt_full M1.view f1 inb_S1x1_S1x1_0_0)
  · exact congr (congr (congrArg k1_pay1 (View.readAt_full M6.view f6 inb_S1x2000x64_S1x2000x64_0_0_0)) (View.readAt_full M0.view f0 inb_S64x64_S64x64_0_0))
      (View.readAt_full M1.view f1 inb_S1x1_S1x1_0_0)
  · exact congr (congr (congrArg k1_pay1 (View.readAt_full M7.view f7 inb_S1x2000x64_S1x2000x64_0_0_0)) (View.readAt_full M0.view f0 inb_S64x64_S64x64_0_0))
      (View.readAt_full M1.view f1 inb_S1x1_S1x1_0_0)
  · exact congr (congr (congrArg k1_pay1 (View.readAt_full M8.view f8 inb_S1x2000x64_S1x2000x64_0_0_0)) (View.readAt_full M0.view f0 inb_S64x64_S64x64_0_0))
      (View.readAt_full M1.view f1 inb_S1x1_S1x1_0_0)
  · exact congr (congr (congrArg k1_pay1 (View.readAt_full M9.view f9 inb_S1x2000x64_S1x2000x64_0_0_0)) (View.readAt_full M0.view f0 inb_S64x64_S64x64_0_0))
      (View.readAt_full M1.view f1 inb_S1x1_S1x1_0_0)
  · exact congr (congr (congrArg k1_pay1 (View.readAt_full M10.view f10 inb_S1x2000x64_S1x2000x64_0_0_0)) (View.readAt_full M0.view f0 inb_S64x64_S64x64_0_0))
      (View.readAt_full M1.view f1 inb_S1x1_S1x1_0_0)
  · exact congr (congr (congrArg k1_pay1 (View.readAt_full M11.view f11 inb_S1x2000x64_S1x2000x64_0_0_0)) (View.readAt_full M0.view f0 inb_S64x64_S64x64_0_0))
      (View.readAt_full M1.view f1 inb_S1x1_S1x1_0_0)

end Run

/-! ## The pipeline's proof data -/

variable (V : Dev nD → Valuation τ sig (Elt F))

/-- The twelve inputs' blocks at their own shapes. -/
abbrev in1_0 (c : Dev nD) (t : Fin cfg1.N) : Vec F S64x64 .f32 := ((cfg1.win 0).blk t).view.read (Elt F) (V c (Proc.devRef .tc (Pipeline.arrRef spec1 0)))
abbrev in1_1 (c : Dev nD) (t : Fin cfg1.N) : Vec F S1x1 .f32 := ((cfg1.win 1).blk t).view.read (Elt F) (V c (Proc.devRef .tc (Pipeline.arrRef spec1 1)))
abbrev in1_2 (c : Dev nD) (t : Fin cfg1.N) : Vec F S1x2000x64 .f32 := ((cfg1.win 2).blk t).view.read (Elt F) (V c (Proc.devRef .tc (Pipeline.arrRef spec1 2)))
abbrev in1_3 (c : Dev nD) (t : Fin cfg1.N) : Vec F S1x2000x64 .f32 := ((cfg1.win 3).blk t).view.read (Elt F) (V c (Proc.devRef .tc (Pipeline.arrRef spec1 3)))
abbrev in1_4 (c : Dev nD) (t : Fin cfg1.N) : Vec F S1x2000x64 .f32 := ((cfg1.win 4).blk t).view.read (Elt F) (V c (Proc.devRef .tc (Pipeline.arrRef spec1 4)))
abbrev in1_5 (c : Dev nD) (t : Fin cfg1.N) : Vec F S1x2000x64 .f32 := ((cfg1.win 5).blk t).view.read (Elt F) (V c (Proc.devRef .tc (Pipeline.arrRef spec1 5)))
abbrev in1_6 (c : Dev nD) (t : Fin cfg1.N) : Vec F S1x2000x64 .f32 := ((cfg1.win 6).blk t).view.read (Elt F) (V c (Proc.devRef .tc (Pipeline.arrRef spec1 6)))
abbrev in1_7 (c : Dev nD) (t : Fin cfg1.N) : Vec F S1x2000x64 .f32 := ((cfg1.win 7).blk t).view.read (Elt F) (V c (Proc.devRef .tc (Pipeline.arrRef spec1 7)))
abbrev in1_8 (c : Dev nD) (t : Fin cfg1.N) : Vec F S1x2000x64 .f32 := ((cfg1.win 8).blk t).view.read (Elt F) (V c (Proc.devRef .tc (Pipeline.arrRef spec1 8)))
abbrev in1_9 (c : Dev nD) (t : Fin cfg1.N) : Vec F S1x2000x64 .f32 := ((cfg1.win 9).blk t).view.read (Elt F) (V c (Proc.devRef .tc (Pipeline.arrRef spec1 9)))
abbrev in1_10 (c : Dev nD) (t : Fin cfg1.N) : Vec F S1x2000x64 .f32 := ((cfg1.win 10).blk t).view.read (Elt F) (V c (Proc.devRef .tc (Pipeline.arrRef spec1 10)))
abbrev in1_11 (c : Dev nD) (t : Fin cfg1.N) : Vec F S1x2000x64 .f32 := ((cfg1.win 11).blk t).view.read (Elt F) (V c (Proc.devRef .tc (Pipeline.arrRef spec1 11)))

/-- The second pipeline's proof data: arrays at the valuation; after the body the inputs as fetched and the result at the
    projected rows. -/
def dat1 (c : Dev nD) : Dat τ (Elt F) (HIx 1) ℕ UU ℕ cfg1 c where
  A w := V c (Proc.devRef .tc (Pipeline.arrRef spec1 w))
  after w t := match w with
    | ⟨0, _⟩ => in1_0 V c t
    | ⟨1, _⟩ => in1_1 V c t
    | ⟨2, _⟩ => in1_2 V c t
    | ⟨3, _⟩ => in1_3 V c t
    | ⟨4, _⟩ => in1_4 V c t
    | ⟨5, _⟩ => in1_5 V c t
    | ⟨6, _⟩ => in1_6 V c t
    | ⟨7, _⟩ => in1_7 V c t
    | ⟨8, _⟩ => in1_8 V c t
    | ⟨9, _⟩ => in1_9 V c t
    | ⟨10, _⟩ => in1_10 V c t
    | ⟨11, _⟩ => in1_11 V c t
    | ⟨12, _⟩ => projBlk (in1_0 V c t) (in1_1 V c t) ![in1_2 V c t, in1_3 V c t, in1_4 V c t, in1_5 V c t, in1_6 V c t, in1_7 V c t, in1_8 V c t, in1_9 V c t, in1_10 V c t, in1_11 V c t]
  Φ _ := Pipeline.scopedRest spec1 c
  q w := Pipeline.shareOf spec1 w
  owed _ := (K (F := F)).Otc c 0
  recorded _ := room (F := F) c

theorem before1_0 (c : Dev nD) (t : Fin cfg1.N) (d : (cfg1.win 0).block.Idx → Elt F (cfg1.win 0).elt) : (dat1 V c).before 0 t d = in1_0 V c t := by
  rw [(dat1 V c).before_in_eq_fetched 0 rfl (fun _ => rfl) (fun _ _ _ => rfl) (fun _ => rfl) t d]
  unfold Dat.fetched Dat.blockOf; dsimp only [dat1]; rfl
theorem before1_1 (c : Dev nD) (t : Fin cfg1.N) (d : (cfg1.win 1).block.Idx → Elt F (cfg1.win 1).elt) : (dat1 V c).before 1 t d = in1_1 V c t := by
  rw [(dat1 V c).before_in_eq_fetched 1 rfl (fun _ => rfl) (fun _ _ _ => rfl) (fun _ => rfl) t d]
  unfold Dat.fetched Dat.blockOf; dsimp only [dat1]; rfl
theorem before1_2 (c : Dev nD) (t : Fin cfg1.N) (d : (cfg1.win 2).block.Idx → Elt F (cfg1.win 2).elt) : (dat1 V c).before 2 t d = in1_2 V c t := by
  rw [(dat1 V c).before_in_eq_fetched 2 rfl (fun _ => rfl) (fun _ _ _ => rfl) (fun _ => rfl) t d]
  unfold Dat.fetched Dat.blockOf; dsimp only [dat1]; rfl
theorem before1_3 (c : Dev nD) (t : Fin cfg1.N) (d : (cfg1.win 3).block.Idx → Elt F (cfg1.win 3).elt) : (dat1 V c).before 3 t d = in1_3 V c t := by
  rw [(dat1 V c).before_in_eq_fetched 3 rfl (fun _ => rfl) (fun _ _ _ => rfl) (fun _ => rfl) t d]
  unfold Dat.fetched Dat.blockOf; dsimp only [dat1]; rfl
theorem before1_4 (c : Dev nD) (t : Fin cfg1.N) (d : (cfg1.win 4).block.Idx → Elt F (cfg1.win 4).elt) : (dat1 V c).before 4 t d = in1_4 V c t := by
  rw [(dat1 V c).before_in_eq_fetched 4 rfl (fun _ => rfl) (fun _ _ _ => rfl) (fun _ => rfl) t d]
  unfold Dat.fetched Dat.blockOf; dsimp only [dat1]; rfl
theorem before1_5 (c : Dev nD) (t : Fin cfg1.N) (d : (cfg1.win 5).block.Idx → Elt F (cfg1.win 5).elt) : (dat1 V c).before 5 t d = in1_5 V c t := by
  rw [(dat1 V c).before_in_eq_fetched 5 rfl (fun _ => rfl) (fun _ _ _ => rfl) (fun _ => rfl) t d]
  unfold Dat.fetched Dat.blockOf; dsimp only [dat1]; rfl
theorem before1_6 (c : Dev nD) (t : Fin cfg1.N) (d : (cfg1.win 6).block.Idx → Elt F (cfg1.win 6).elt) : (dat1 V c).before 6 t d = in1_6 V c t := by
  rw [(dat1 V c).before_in_eq_fetched 6 rfl (fun _ => rfl) (fun _ _ _ => rfl) (fun _ => rfl) t d]
  unfold Dat.fetched Dat.blockOf; dsimp only [dat1]; rfl
theorem before1_7 (c : Dev nD) (t : Fin cfg1.N) (d : (cfg1.win 7).block.Idx → Elt F (cfg1.win 7).elt) : (dat1 V c).before 7 t d = in1_7 V c t := by
  rw [(dat1 V c).before_in_eq_fetched 7 rfl (fun _ => rfl) (fun _ _ _ => rfl) (fun _ => rfl) t d]
  unfold Dat.fetched Dat.blockOf; dsimp only [dat1]; rfl
theorem before1_8 (c : Dev nD) (t : Fin cfg1.N) (d : (cfg1.win 8).block.Idx → Elt F (cfg1.win 8).elt) : (dat1 V c).before 8 t d = in1_8 V c t := by
  rw [(dat1 V c).before_in_eq_fetched 8 rfl (fun _ => rfl) (fun _ _ _ => rfl) (fun _ => rfl) t d]
  unfold Dat.fetched Dat.blockOf; dsimp only [dat1]; rfl
theorem before1_9 (c : Dev nD) (t : Fin cfg1.N) (d : (cfg1.win 9).block.Idx → Elt F (cfg1.win 9).elt) : (dat1 V c).before 9 t d = in1_9 V c t := by
  rw [(dat1 V c).before_in_eq_fetched 9 rfl (fun _ => rfl) (fun _ _ _ => rfl) (fun _ => rfl) t d]
  unfold Dat.fetched Dat.blockOf; dsimp only [dat1]; rfl
theorem before1_10 (c : Dev nD) (t : Fin cfg1.N) (d : (cfg1.win 10).block.Idx → Elt F (cfg1.win 10).elt) : (dat1 V c).before 10 t d = in1_10 V c t := by
  rw [(dat1 V c).before_in_eq_fetched 10 rfl (fun _ => rfl) (fun _ _ _ => rfl) (fun _ => rfl) t d]
  unfold Dat.fetched Dat.blockOf; dsimp only [dat1]; rfl
theorem before1_11 (c : Dev nD) (t : Fin cfg1.N) (d : (cfg1.win 11).block.Idx → Elt F (cfg1.win 11).elt) : (dat1 V c).before 11 t d = in1_11 V c t := by
  rw [(dat1 V c).before_in_eq_fetched 11 rfl (fun _ => rfl) (fun _ _ _ => rfl) (fun _ => rfl) t d]
  unfold Dat.fetched Dat.blockOf; dsimp only [dat1]; rfl

set_option maxHeartbeats 1000000 in
theorem body1 (c : Dev nD) : BodyObligation (dat1 V c) (defs₀ (F := F)) 𝒱₀ none Set.univ := fun t => by
  rw [bigSep_W1, bigSep_W1]
  show _ ⊢ wp frame _ _ _ (fun _ => iprop((dat1 V c).Φ t.castSucc ∗ (dat1 V c).owesAt none t.castSucc
    ∗ own c (win1_0.stage (cfg1.slots t 0)) (in1_0 V c t) ∗ own c (win1_1.stage (cfg1.slots t 1)) (in1_1 V c t) ∗ own c (win1_2.stage (cfg1.slots t 2)) (in1_2 V c t) ∗ own c (win1_3.stage (cfg1.slots t 3)) (in1_3 V c t) ∗ own c (win1_4.stage (cfg1.slots t 4)) (in1_4 V c t) ∗ own c (win1_5.stage (cfg1.slots t 5)) (in1_5 V c t) ∗ own c (win1_6.stage (cfg1.slots t 6)) (in1_6 V c t) ∗ own c (win1_7.stage (cfg1.slots t 7)) (in1_7 V c t) ∗ own c (win1_8.stage (cfg1.slots t 8)) (in1_8 V c t) ∗ own c (win1_9.stage (cfg1.slots t 9)) (in1_9 V c t) ∗ own c (win1_10.stage (cfg1.slots t 10)) (in1_10 V c t) ∗ own c (win1_11.stage (cfg1.slots t 11)) (in1_11 V c t) ∗ own c (win1_12.stage (cfg1.slots t 12)) (projBlk (in1_0 V c t) (in1_1 V c t) ![in1_2 V c t, in1_3 V c t, in1_4 V c t, in1_5 V c t, in1_6 V c t, in1_7 V c t, in1_8 V c t, in1_9 V c t, in1_10 V c t, in1_11 V c t])))
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave H0 := (Entails.of_eq (congrArg (owns _ _ _) (before1_0 V c t d0))) $$ H0
  ihave H1 := (Entails.of_eq (congrArg (owns _ _ _) (before1_1 V c t d1))) $$ H1
  ihave H2 := (Entails.of_eq (congrArg (owns _ _ _) (before1_2 V c t d2))) $$ H2
  ihave H3 := (Entails.of_eq (congrArg (owns _ _ _) (before1_3 V c t d3))) $$ H3
  ihave H4 := (Entails.of_eq (congrArg (owns _ _ _) (before1_4 V c t d4))) $$ H4
  ihave H5 := (Entails.of_eq (congrArg (owns _ _ _) (before1_5 V c t d5))) $$ H5
  ihave H6 := (Entails.of_eq (congrArg (owns _ _ _) (before1_6 V c t d6))) $$ H6
  ihave H7 := (Entails.of_eq (congrArg (owns _ _ _) (before1_7 V c t d7))) $$ H7
  ihave H8 := (Entails.of_eq (congrArg (owns _ _ _) (before1_8 V c t d8))) $$ H8
  ihave H9 := (Entails.of_eq (congrArg (owns _ _ _) (before1_9 V c t d9))) $$ H9
  ihave H10 := (Entails.of_eq (congrArg (owns _ _ _) (before1_10 V c t d10))) $$ H10
  ihave H11 := (Entails.of_eq (congrArg (owns _ _ _) (before1_11 V c t d11))) $$ H11
  iapply (proj_run c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ (hstage1_9 ((cfg1.slots t 9).cast nbuf1_9)) _ (hstage1_10 ((cfg1.slots t 10).cast nbuf1_10)) _ (hstage1_11 ((cfg1.slots t 11).cast nbuf1_11)) _ (hstage1_12 ((cfg1.slots t 12).cast nbuf1_12))
    (in1_0 V c t) (in1_1 V c t) (in1_2 V c t) (in1_3 V c t) (in1_4 V c t) (in1_5 V c t) (in1_6 V c t) (in1_7 V c t) (in1_8 V c t) (in1_9 V c t) (in1_10 V c t) (in1_11 V c t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Proof

end
-- ==== Proof.Arrays.lean ====
/-
  What the two TensorCore pipelines leave in their arrays.
-/
module

public import proofs.«01_k».proof.Proof.Proj
public import Idealize.ShloMosaic.Lib.Pipeline.Value
public import Idealize.ShloMosaic.Lib.Pipeline.ValueKit

@[expose] public section

set_option maxRecDepth 16384

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

open Idealize.ShloMosaic.TcCoe
open Idealize.ShloMosaic.Pipeline (Dat BodyObligation)

variable (V : Dev nD → Valuation τ sig (Elt F))

/-! ## The first pipeline: every window is its whole array -/

theorem emb0_0 (t : Fin cfg0.N) (y : S3200x32.Idx) : (win0_0.blk t).view.emb y = y := by
  have hi : ∀ t : Fin grid0.N, win0_0.index t = ![0, 0] := by decide +kernel
  funext a
  apply Fin.ext
  blk_simp
  rw [hi t]
  fin_cases a <;> exact (congrArg (· + _) (Nat.zero_mul _)).trans (Nat.zero_add _)

theorem emb0_1 (t : Fin cfg0.N) (y : S32x32.Idx) : (win0_1.blk t).view.emb y = y := by
  have hi : ∀ t : Fin grid0.N, win0_1.index t = ![0, 0] := by decide +kernel
  funext a
  apply Fin.ext
  blk_simp
  rw [hi t]
  fin_cases a <;> exact (congrArg (· + _) (Nat.zero_mul _)).trans (Nat.zero_add _)

theorem emb0_2 (t : Fin cfg0.N) (y : S32x1.Idx) : (win0_2.blk t).view.emb y = y := by
  have hi : ∀ t : Fin grid0.N, win0_2.index t = ![0, 0] := by decide +kernel
  funext a
  apply Fin.ext
  blk_simp
  rw [hi t]
  fin_cases a <;> exact (congrArg (· + _) (Nat.zero_mul _)).trans (Nat.zero_add _)

theorem emb0_3 (t : Fin cfg0.N) (y : S1x32.Idx) : (win0_3.blk t).view.emb y = y := by
  have hi : ∀ t : Fin grid0.N, win0_3.index t = ![0, 0] := by decide +kernel
  funext a
  apply Fin.ext
  blk_simp
  rw [hi t]
  fin_cases a <;> exact (congrArg (· + _) (Nat.zero_mul _)).trans (Nat.zero_add _)

theorem emb0_4 (t : Fin cfg0.N) (y : S1x32.Idx) : (win0_4.blk t).view.emb y = y := by
  have hi : ∀ t : Fin grid0.N, win0_4.index t = ![0, 0] := by decide +kernel
  funext a
  apply Fin.ext
  blk_simp
  rw [hi t]
  fin_cases a <;> exact (congrArg (· + _) (Nat.zero_mul _)).trans (Nat.zero_add _)

theorem emb0_5 (t : Fin cfg0.N) (y : S1x1.Idx) : (win0_5.blk t).view.emb y = y := by
  have hi : ∀ t : Fin grid0.N, win0_5.index t = ![0, 0] := by decide +kernel
  funext a
  apply Fin.ext
  blk_simp
  rw [hi t]
  fin_cases a <;> exact (congrArg (· + _) (Nat.zero_mul _)).trans (Nat.zero_add _)

theorem emb0_6 (t : Fin cfg0.N) (y : S3200x1.Idx) : (win0_6.blk t).view.emb y = y := by
  have hi : ∀ t : Fin grid0.N, win0_6.index t = ![0, 0] := by decide +kernel
  funext a
  apply Fin.ext
  blk_simp
  rw [hi t]
  fin_cases a <;> exact (congrArg (· + _) (Nat.zero_mul _)).trans (Nat.zero_add _)

theorem emb0_7 (t : Fin cfg0.N) (y : S1x1.Idx) : (win0_7.blk t).view.emb y = y := by
  have hi : ∀ t : Fin grid0.N, win0_7.index t = ![0, 0] := by decide +kernel
  funext a
  apply Fin.ext
  blk_simp
  rw [hi t]
  fin_cases a <;> exact (congrArg (· + _) (Nat.zero_mul _)).trans (Nat.zero_add _)

theorem in0_0_eq (c : Dev nD) (t : Fin cfg0.N) : in0_0 V c t = V c (Proc.devRef .tc main_arg2) :=
  funext fun y => congrArg (V c (Proc.devRef .tc main_arg2)) (emb0_0 t y)

theorem in0_1_eq (c : Dev nD) (t : Fin cfg0.N) : in0_1 V c t = V c (Proc.devRef .tc main_arg4) :=
  funext fun y => congrArg (V c (Proc.devRef .tc main_arg4)) (emb0_1 t y)

theorem in0_2_eq (c : Dev nD) (t : Fin cfg0.N) : in0_2 V c t = V c (Proc.devRef .tc main_arg6) :=
  funext fun y => congrArg (V c (Proc.devRef .tc main_arg6)) (emb0_2 t y)

theorem in0_3_eq (c : Dev nD) (t : Fin cfg0.N) : in0_3 V c t = V c (Proc.devRef .tc main_v0) :=
  funext fun y => congrArg (V c (Proc.devRef .tc main_v0)) (emb0_3 t y)

theorem in0_4_eq (c : Dev nD) (t : Fin cfg0.N) : in0_4 V c t = V c (Proc.devRef .tc main_v1) :=
  funext fun y => congrArg (V c (Proc.devRef .tc main_v1)) (emb0_4 t y)

theorem in0_5_eq (c : Dev nD) (t : Fin cfg0.N) : in0_5 V c t = V c (Proc.devRef .tc main_v2) :=
  funext fun y => congrArg (V c (Proc.devRef .tc main_v2)) (emb0_5 t y)

/-- The first result: the folded vector. -/
theorem arr0_6 (c : Dev nD) : (dat0 V c).arrAt 6 cfg0.N = foldV (V c (Proc.devRef .tc main_arg2)) (V c (Proc.devRef .tc main_arg4)) (V c (Proc.devRef .tc main_arg6)) := by
  refine (dat0 V c).arrAt_eq_of_covers 6 _ (by decide +kernel) fun t hf y => ?_
  blk_simp
  refine (congrFun (congr (congr (congrArg foldV (in0_0_eq V c t)) (in0_1_eq V c t)) (in0_2_eq V c t)) y).trans ?_
  exact congrArg (foldV _ _ _) (emb0_6 t y).symm

/-- The second: the folded bias. -/
theorem arr0_7 (c : Dev nD) : (dat0 V c).arrAt 7 cfg0.N
    = foldC (V c (Proc.devRef .tc main_arg4)) (V c (Proc.devRef .tc main_arg6)) (V c (Proc.devRef .tc main_v0)) (V c (Proc.devRef .tc main_v1)) (V c (Proc.devRef .tc main_v2)) := by
  refine (dat0 V c).arrAt_eq_of_covers 7 _ (by decide +kernel) fun t hf y => ?_
  blk_simp
  refine (congrFun (congr (congr (congr (congr (congrArg foldC (in0_1_eq V c t)) (in0_2_eq V c t)) (in0_3_eq V c t)) (in0_4_eq V c t)) (in0_5_eq V c t)) y).trans ?_
  exact congrArg (foldC _ _ _ _ _) (emb0_7 t y).symm

/-! ## The second pipeline -/

/-- The rows of one block of the ten-fold table. -/
def rowsOf (A : Vec F S10x10000x64 .f32) (k : Fin 10) (b : Nat) : Vec F S1x2000x64 .f32 := fun y =>
  A (ValueIdx.ix3 k (⟨(b * 2000 + (y (1 : Fin 3)).val) % 10000, Nat.mod_lt _ (by decide)⟩ : Fin 10000) (y (2 : Fin 3)))

/-- Every table row projected. -/
def projArr (X0 : Vec F S64x64 .f32) (X1 : Vec F S1x1 .f32) (A : Vec F S10x10000x64 .f32) : Vec F S10x10000x64 .f32 := fun x =>
  projBlk X0 X1 (fun k => rowsOf A k ((x (1 : Fin 3)).val / 2000))
    (ValueIdx.ix3 (x (0 : Fin 3)) (⟨(x (1 : Fin 3)).val % 2000, Nat.mod_lt _ (by decide)⟩ : Fin 2000) (x (2 : Fin 3)))

theorem in1_0_eq (c : Dev nD) (t : Fin cfg1.N) : in1_0 V c t = V c (Proc.devRef .tc main_v6) := by
  have hi : ∀ t : Fin grid1.N, win1_0.index t = ![0, 0] := by decide +kernel
  funext y
  show V c (Proc.devRef .tc main_v6) ((win1_0.blk t).view.emb y) = _
  refine congrArg _ (funext fun a => Fin.ext ?_)
  blk_simp
  rw [hi t]
  fin_cases a <;> exact (congrArg (· + _) (Nat.zero_mul _)).trans (Nat.zero_add _)

theorem in1_1_eq (c : Dev nD) (t : Fin cfg1.N) : in1_1 V c t = V c (Proc.devRef .tc main_v3_1) := by
  have hi : ∀ t : Fin grid1.N, win1_1.index t = ![0, 0] := by decide +kernel
  funext y
  show V c (Proc.devRef .tc main_v3_1) ((win1_1.blk t).view.emb y) = _
  refine congrArg _ (funext fun a => Fin.ext ?_)
  blk_simp
  rw [hi t]
  fin_cases a <;> exact (congrArg (· + _) (Nat.zero_mul _)).trans (Nat.zero_add _)

theorem lt5 (t : Fin grid1.N) : t.val < 5 := by have := t.isLt; have := N_1; omega

theorem in1_2_eq (c : Dev nD) (t : Fin cfg1.N) : in1_2 V c t = rowsOf (V c (Proc.devRef .tc main_v7)) 0 t.val := by
  have hi : ∀ t : Fin grid1.N, win1_2.index t = ![0, t.val, 0] := by decide +kernel
  funext y
  unfold rowsOf
  show V c (Proc.devRef .tc main_v7) ((win1_2.blk t).view.emb y) = _
  refine congrArg _ (funext fun a => Fin.ext ?_)
  have h0 : (y (0 : Fin 3)).val < 1 := (y (0 : Fin 3)).isLt
  have h1 : (y (1 : Fin 3)).val < 2000 := (y (1 : Fin 3)).isLt
  have ht := lt5 t
  blk_simp
  rw [hi t]
  fin_cases a
  · show 0 * 1 + (y (0 : Fin 3)).val = 0
    omega
  · show t.val * 2000 + (y (1 : Fin 3)).val = (t.val * 2000 + (y (1 : Fin 3)).val) % 10000
    omega
  · show 0 * 64 + (y (2 : Fin 3)).val = (y (2 : Fin 3)).val
    omega

theorem in1_3_eq (c : Dev nD) (t : Fin cfg1.N) : in1_3 V c t = rowsOf (V c (Proc.devRef .tc main_v7)) 1 t.val := by
  have hi : ∀ t : Fin grid1.N, win1_3.index t = ![1, t.val, 0] := by decide +kernel
  funext y
  unfold rowsOf
  show V c (Proc.devRef .tc main_v7) ((win1_3.blk t).view.emb y) = _
  refine congrArg _ (funext fun a => Fin.ext ?_)
  have h0 : (y (0 : Fin 3)).val < 1 := (y (0 : Fin 3)).isLt
  have h1 : (y (1 : Fin 3)).val < 2000 := (y (1 : Fin 3)).isLt
  have ht := lt5 t
  blk_simp
  rw [hi t]
  fin_cases a
  · show 1 * 1 + (y (0 : Fin 3)).val = 1
    omega
  · show t.val * 2000 + (y (1 : Fin 3)).val = (t.val * 2000 + (y (1 : Fin 3)).val) % 10000
    omega
  · show 0 * 64 + (y (2 : Fin 3)).val = (y (2 : Fin 3)).val
    omega

theorem in1_4_eq (c : Dev nD) (t : Fin cfg1.N) : in1_4 V c t = rowsOf (V c (Proc.devRef .tc main_v7)) 2 t.val := by
  have hi : ∀ t : Fin grid1.N, win1_4.index t = ![2, t.val, 0] := by decide +kernel
  funext y
  unfold rowsOf
  show V c (Proc.devRef .tc main_v7) ((win1_4.blk t).view.emb y) = _
  refine congrArg _ (funext fun a => Fin.ext ?_)
  have h0 : (y (0 : Fin 3)).val < 1 := (y (0 : Fin 3)).isLt
  have h1 : (y (1 : Fin 3)).val < 2000 := (y (1 : Fin 3)).isLt
  have ht := lt5 t
  blk_simp
  rw [hi t]
  fin_cases a
  · show 2 * 1 + (y (0 : Fin 3)).val = 2
    omega
  · show t.val * 2000 + (y (1 : Fin 3)).val = (t.val * 2000 + (y (1 : Fin 3)).val) % 10000
    omega
  · show 0 * 64 + (y (2 : Fin 3)).val = (y (2 : Fin 3)).val
    omega

theorem in1_5_eq (c : Dev nD) (t : Fin cfg1.N) : in1_5 V c t = rowsOf (V c (Proc.devRef .tc main_v7)) 3 t.val := by
  have hi : ∀ t : Fin grid1.N, win1_5.index t = ![3, t.val, 0] := by decide +kernel
  funext y
  unfold rowsOf
  show V c (Proc.devRef .tc main_v7) ((win1_5.blk t).view.emb y) = _
  refine congrArg _ (funext fun a => Fin.ext ?_)
  have h0 : (y (0 : Fin 3)).val < 1 := (y (0 : Fin 3)).isLt
  have h1 : (y (1 : Fin 3)).val < 2000 := (y (1 : Fin 3)).isLt
  have ht := lt5 t
  blk_simp
  rw [hi t]
  fin_cases a
  · show 3 * 1 + (y (0 : Fin 3)).val = 3
    omega
  · show t.val * 2000 + (y (1 : Fin 3)).val = (t.val * 2000 + (y (1 : Fin 3)).val) % 10000
    omega
  · show 0 * 64 + (y (2 : Fin 3)).val = (y (2 : Fin 3)).val
    omega

theorem in1_6_eq (c : Dev nD) (t : Fin cfg1.N) : in1_6 V c t = rowsOf (V c (Proc.devRef .tc main_v7)) 4 t.val := by
  have hi : ∀ t : Fin grid1.N, win1_6.index t = ![4, t.val, 0] := by decide +kernel
  funext y
  unfold rowsOf
  show V c (Proc.devRef .tc main_v7) ((win1_6.blk t).view.emb y) = _
  refine congrArg _ (funext fun a => Fin.ext ?_)
  have h0 : (y (0 : Fin 3)).val < 1 := (y (0 : Fin 3)).isLt
  have h1 : (y (1 : Fin 3)).val < 2000 := (y (1 : Fin 3)).isLt
  have ht := lt5 t
  blk_simp
  rw [hi t]
  fin_cases a
  · show 4 * 1 + (y (0 : Fin 3)).val = 4
    omega
  · show t.val * 2000 + (y (1 : Fin 3)).val = (t.val * 2000 + (y (1 : Fin 3)).val) % 10000
    omega
  · show 0 * 64 + (y (2 : Fin 3)).val = (y (2 : Fin 3)).val
    omega

theorem in1_7_eq (c : Dev nD) (t : Fin cfg1.N) : in1_7 V c t = rowsOf (V c (Proc.devRef .tc main_v7)) 5 t.val := by
  have hi : ∀ t : Fin grid1.N, win1_7.index t = ![5, t.val, 0] := by decide +kernel
  funext y
  unfold rowsOf
  show V c (Proc.devRef .tc main_v7) ((win1_7.blk t).view.emb y) = _
  refine congrArg _ (funext fun a => Fin.ext ?_)
  have h0 : (y (0 : Fin 3)).val < 1 := (y (0 : Fin 3)).isLt
  have h1 : (y (1 : Fin 3)).val < 2000 := (y (1 : Fin 3)).isLt
  have ht := lt5 t
  blk_simp
  rw [hi t]
  fin_cases a
  · show 5 * 1 + (y (0 : Fin 3)).val = 5
    omega
  · show t.val * 2000 + (y (1 : Fin 3)).val = (t.val * 2000 + (y (1 : Fin 3)).val) % 10000
    omega
  · show 0 * 64 + (y (2 : Fin 3)).val = (y (2 : Fin 3)).val
    omega

theorem in1_8_eq (c : Dev nD) (t : Fin cfg1.N) : in1_8 V c t = rowsOf (V c (Proc.devRef .tc main_v7)) 6 t.val := by
  have hi : ∀ t : Fin grid1.N, win1_8.index t = ![6, t.val, 0] := by decide +kernel
  funext y
  unfold rowsOf
  show V c (Proc.devRef .tc main_v7) ((win1_8.blk t).view.emb y) = _
  refine congrArg _ (funext fun a => Fin.ext ?_)
  have h0 : (y (0 : Fin 3)).val < 1 := (y (0 : Fin 3)).isLt
  have h1 : (y (1 : Fin 3)).val < 2000 := (y (1 : Fin 3)).isLt
  have ht := lt5 t
  blk_simp
  rw [hi t]
  fin_cases a
  · show 6 * 1 + (y (0 : Fin 3)).val = 6
    omega
  · show t.val * 2000 + (y (1 : Fin 3)).val = (t.val * 2000 + (y (1 : Fin 3)).val) % 10000
    omega
  · show 0 * 64 + (y (2 : Fin 3)).val = (y (2 : Fin 3)).val
    omega

theorem in1_9_eq (c : Dev nD) (t : Fin cfg1.N) : in1_9 V c t = rowsOf (V c (Proc.devRef .tc main_v7)) 7 t.val := by
  have hi : ∀ t : Fin grid1.N, win1_9.index t = ![7, t.val, 0] := by decide +kernel
  funext y
  unfold rowsOf
  show V c (Proc.devRef .tc main_v7) ((win1_9.blk t).view.emb y) = _
  refine congrArg _ (funext fun a => Fin.ext ?_)
  have h0 : (y (0 : Fin 3)).val < 1 := (y (0 : Fin 3)).isLt
  have h1 : (y (1 : Fin 3)).val < 2000 := (y (1 : Fin 3)).isLt
  have ht := lt5 t
  blk_simp
  rw [hi t]
  fin_cases a
  · show 7 * 1 + (y (0 : Fin 3)).val = 7
    omega
  · show t.val * 2000 + (y (1 : Fin 3)).val = (t.val * 2000 + (y (1 : Fin 3)).val) % 10000
    omega
  · show 0 * 64 + (y (2 : Fin 3)).val = (y (2 : Fin 3)).val
    omega

theorem in1_10_eq (c : Dev nD) (t : Fin cfg1.N) : in1_10 V c t = rowsOf (V c (Proc.devRef .tc main_v7)) 8 t.val := by
  have hi : ∀ t : Fin grid1.N, win1_10.index t = ![8, t.val, 0] := by decide +kernel
  funext y
  unfold rowsOf
  show V c (Proc.devRef .tc main_v7) ((win1_10.blk t).view.emb y) = _
  refine congrArg _ (funext fun a => Fin.ext ?_)
  have h0 : (y (0 : Fin 3)).val < 1 := (y (0 : Fin 3)).isLt
  have h1 : (y (1 : Fin 3)).val < 2000 := (y (1 : Fin 3)).isLt
  have ht := lt5 t
  blk_simp
  rw [hi t]
  fin_cases a
  · show 8 * 1 + (y (0 : Fin 3)).val = 8
    omega
  · show t.val * 2000 + (y (1 : Fin 3)).val = (t.val * 2000 + (y (1 : Fin 3)).val) % 10000
    omega
  · show 0 * 64 + (y (2 : Fin 3)).val = (y (2 : Fin 3)).val
    omega

theorem in1_11_eq (c : Dev nD) (t : Fin cfg1.N) : in1_11 V c t = rowsOf (V c (Proc.devRef .tc main_v7)) 9 t.val := by
  have hi : ∀ t : Fin grid1.N, win1_11.index t = ![9, t.val, 0] := by decide +kernel
  funext y
  unfold rowsOf
  show V c (Proc.devRef .tc main_v7) ((win1_11.blk t).view.emb y) = _
  refine congrArg _ (funext fun a => Fin.ext ?_)
  have h0 : (y (0 : Fin 3)).val < 1 := (y (0 : Fin 3)).isLt
  have h1 : (y (1 : Fin 3)).val < 2000 := (y (1 : Fin 3)).isLt
  have ht := lt5 t
  blk_simp
  rw [hi t]
  fin_cases a
  · show 9 * 1 + (y (0 : Fin 3)).val = 9
    omega
  · show t.val * 2000 + (y (1 : Fin 3)).val = (t.val * 2000 + (y (1 : Fin 3)).val) % 10000
    omega
  · show 0 * 64 + (y (2 : Fin 3)).val = (y (2 : Fin 3)).val
    omega

/-- The projected table. -/
theorem arr1_12 (c : Dev nD) : (dat1 V c).arrAt 12 cfg1.N
    = projArr (V c (Proc.devRef .tc main_v6)) (V c (Proc.devRef .tc main_v3_1)) (V c (Proc.devRef .tc main_v7)) := by
  have hi : ∀ t : Fin grid1.N, win1_12.index t = ![0, t.val, 0] := by decide +kernel
  refine (dat1 V c).arrAt_eq_of_covers 12 _ (by decide +kernel) fun t hf y => ?_
  have h1 : (y (1 : Fin 3)).val < 2000 := (y (1 : Fin 3)).isLt
  blk_simp
  have e0 : (win1_12.blk t).view.emb y (0 : Fin 3) = y (0 : Fin 3) := Fin.ext (by
    blk_simp
    rw [hi t]
    show 0 * 10 + (y (0 : Fin 3)).val = (y (0 : Fin 3)).val
    omega)
  have e1 : ((win1_12.blk t).view.emb y (1 : Fin 3)).val = t.val * 2000 + (y (1 : Fin 3)).val := by
    blk_simp
    rw [hi t]
    rfl
  have e2 : (win1_12.blk t).view.emb y (2 : Fin 3) = y (2 : Fin 3) := Fin.ext (by
    blk_simp
    rw [hi t]
    show 0 * 64 + (y (2 : Fin 3)).val = (y (2 : Fin 3)).val
    omega)
  have eY : (![in1_2 V c t, in1_3 V c t, in1_4 V c t, in1_5 V c t, in1_6 V c t, in1_7 V c t, in1_8 V c t, in1_9 V c t, in1_10 V c t, in1_11 V c t] : Fin 10 → Vec F S1x2000x64 .f32)
      = fun k => rowsOf (V c (Proc.devRef .tc main_v7)) k t.val := by
    funext k
    fin_cases k
    · exact in1_2_eq V c t
    · exact in1_3_eq V c t
    · exact in1_4_eq V c t
    · exact in1_5_eq V c t
    · exact in1_6_eq V c t
    · exact in1_7_eq V c t
    · exact in1_8_eq V c t
    · exact in1_9_eq V c t
    · exact in1_10_eq V c t
    · exact in1_11_eq V c t
  have eA : (dat1 V c).after 12 t y
      = projBlk (V c (Proc.devRef .tc main_v6)) (V c (Proc.devRef .tc main_v3_1)) (fun k => rowsOf (V c (Proc.devRef .tc main_v7)) k t.val) y :=
    congrFun (congr (congr (congrArg projBlk (in1_0_eq V c t)) (in1_1_eq V c t)) eY) y
  rw [eA]
  unfold projArr
  rw [show ((win1_12.blk t).view.emb y (1 : Fin 3)).val / 2000 = t.val by omega]
  refine congrArg _ (funext fun a => ?_)
  fin_cases a
  · exact e0.symm
  · exact Fin.ext (show (y (1 : Fin 3)).val = ((win1_12.blk t).view.emb y (1 : Fin 3)).val % 2000 by omega)
  · exact e2.symm

end Cert.Proof

end
-- ==== Proof.Main.lean ====
/-
  The host program: its straight lines of operations between the three kernel launches.
-/
module

public import proofs.«01_k».proof.Proof.Arrays
public import proofs.«01_k».proof.Proof.Call
public import Idealize.ShloMosaic.Lib.Pipeline.Value
public import Idealize.ShloMosaic.Lib.Pipeline.ValueKit

@[expose] public section

set_option maxRecDepth 2048

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

open Idealize.ShloMosaic.TcCoe
open Idealize.ShloMosaic.Pipeline (Dat BodyObligation)

/-! ## The host's straight lines -/

/-- The operations before the first pipeline. -/
def ops1 : List (HloOp τ sig (Elt F)) := [
  StableHlo.reshape main_arg3 main_v0 (rfl : (.f32 : EltTy) = .f32) shapeCasts_S32_S1x32,
  StableHlo.reshape main_arg5 main_v1 (rfl : (.f32 : EltTy) = .f32) shapeCasts_S32_S1x32,
  StableHlo.reshape main_arg7 main_v2 (rfl : (.f32 : EltTy) = .f32) shapeCasts_S1_S1x1]

/-- The operations between the pipelines. -/
def ops2 : List (HloOp τ sig (Elt F)) := [
  StableHlo.reshape main_v3_0 main_v4 (rfl : (.f32 : EltTy) = .f32) shapeCasts_S3200x1_S50x64,
  StableHlo.unary main_v4 main_v5 ((transpose S64x50 [1, 0] · transposes_S50x64_S64x50_1_0) : (⟨S50x64, .f32⟩ : BufTy).Contents (Elt F) → (⟨S64x50, .f32⟩ : BufTy).Contents (Elt F)),
  StableHlo.nullary main_c (constantI S_ 32 0#32),
  StableHlo.unary main_c main_call0_v0 (sitofp .f32 : (⟨S_, .i32⟩ : BufTy).Contents (Elt F) → (⟨S_, .f32⟩ : BufTy).Contents (Elt F)),
  StableHlo.binary main_v5 main_call0_v0 main_v6 ((fun x v => pad S64x64 ![0, 0] ![0, 14] ![0, 0] x v pads_S64x50_S64x64_000_0140 h_S_) : (⟨S64x50, .f32⟩ : BufTy).Contents (Elt F) → (⟨S_, .f32⟩ : BufTy).Contents (Elt F) → (⟨S64x64, .f32⟩ : BufTy).Contents (Elt F)),
  StableHlo.reshape main_arg1 main_v7 (rfl : (.f32 : EltTy) = .f32) shapeCasts_S100000x64_S10x10000x64]

/-- The operations between the second pipeline and the SparseCore call. -/
def ops3 : List (HloOp τ sig (Elt F)) := [
  StableHlo.nullary main_c_0 (constantI S_ 32 64#32),
  StableHlo.unary main_c_0 main_v9 (broadcastInDim S4096x50 ![] bcast_S_S4096x50 : (⟨S_, .i32⟩ : BufTy).Contents (Elt F) → (⟨S4096x50, .i32⟩ : BufTy).Contents (Elt F)),
  StableHlo.binary main_arg0 main_v9 main_v10 (muli : (⟨S4096x50, .i32⟩ : BufTy).Contents (Elt F) → (⟨S4096x50, .i32⟩ : BufTy).Contents (Elt F) → (⟨S4096x50, .i32⟩ : BufTy).Contents (Elt F)),
  StableHlo.nullary main_v11 (iotaInDim S50 32 0),
  StableHlo.unary main_v11 main_v12 (broadcastInDim S1x50 ![1] bcast_S50_S1x50_1 : (⟨S50, .i32⟩ : BufTy).Contents (Elt F) → (⟨S1x50, .i32⟩ : BufTy).Contents (Elt F)),
  StableHlo.unary main_v12 main_v13 (broadcastInDim S4096x50 ![0, 1] bcast_S1x50_S4096x50_0_1 : (⟨S1x50, .i32⟩ : BufTy).Contents (Elt F) → (⟨S4096x50, .i32⟩ : BufTy).Contents (Elt F)),
  StableHlo.binary main_v10 main_v13 main_v14 (addi : (⟨S4096x50, .i32⟩ : BufTy).Contents (Elt F) → (⟨S4096x50, .i32⟩ : BufTy).Contents (Elt F) → (⟨S4096x50, .i32⟩ : BufTy).Contents (Elt F)),
  StableHlo.reshape main_v14 main_v15 (rfl : (.i32 : EltTy) = .i32) shapeCasts_S4096x50_S32x128x50,
  StableHlo.unary main_v15 main_v16 ((transpose S32x50x128 [0, 2, 1] · transposes_S32x128x50_S32x50x128_0_2_1) : (⟨S32x128x50, .i32⟩ : BufTy).Contents (Elt F) → (⟨S32x50x128, .i32⟩ : BufTy).Contents (Elt F)),
  StableHlo.reshape main_v8 main_v17 (rfl : (.f32 : EltTy) = .f32) shapeCasts_S10x10000x64_S6400000]

/-- The operations after the SparseCore call. -/
def ops4 : List (HloOp τ sig (Elt F)) := [
  StableHlo.reshape main_v18 main_v19 (rfl : (.f32 : EltTy) = .f32) shapeCasts_S4096_S4096x1]

/-- The printed program is its lines and its launches. -/
theorem main_eq (d : Dev nD) : main (F := F) d
    = StableHlo.seqK ops1 (Prog.lift (.customCall (SparseCore.inner (Pipeline.entry 0)) ()) >>= fun _ =>
        StableHlo.seqK ops2 (Prog.lift (.customCall (SparseCore.inner (Pipeline.entry 1)) ()) >>= fun _ =>
        StableHlo.seqK ops3 (sc.run d 0 >>= fun _ => StableHlo.seqK ops4 (pure ⟨⟩)))) := rfl

/-- The TensorCore's unscoped buffers. -/
def ucRefs : Finset (DevRef τ sig) := (StableHlo.tcRefs τ sig).filter fun b => ¬ b.isScoped

theorem mem_ucRefs (b : Ref sig .tc) (h : b.isScoped = false) : Proc.devRef (τ := τ) .tc b ∈ ucRefs :=
  Finset.mem_filter.mpr ⟨StableHlo.devRef_mem_tcRefs _, fun h' => Bool.false_ne_true (h.symm.trans h')⟩

theorem unscopedBufs_held (c : Dev nD) (W : Valuation τ sig (Elt F)) :
    (unscopedBufs c (fun b => W b) : sProp 𝕄) = StableHlo.held (T c) ucRefs W := by
  unfold unscopedBufs StableHlo.held ucRefs StableHlo.tcRefs
  rw [Finset.filter_map, bigSep_map]
  rfl

theorem sub1 {a : DevRef τ sig} (ha : a ∈ ucRefs) : ({a} : Finset (DevRef τ sig)) ⊆ ucRefs :=
  Finset.singleton_subset_iff.mpr ha
theorem sub2 {a b : DevRef τ sig} (ha : a ∈ ucRefs) (hb : b ∈ ucRefs) : ({a, b} : Finset (DevRef τ sig)) ⊆ ucRefs :=
  Finset.insert_subset ha (sub1 hb)
theorem sub3 {a b c : DevRef τ sig} (ha : a ∈ ucRefs) (hb : b ∈ ucRefs) (hc : c ∈ ucRefs) : ({a, b, c} : Finset (DevRef τ sig)) ⊆ ucRefs :=
  Finset.insert_subset ha (sub2 hb hc)

theorem sub_ops1 : ∀ op ∈ (ops1 : List (HloOp τ sig (Elt F))), op.bufs ⊆ ucRefs := by
  unfold ops1
  simp only [List.forall_mem_cons, StableHlo.reshape_bufs]
  refine ⟨?_, ?_, ?_, List.forall_mem_nil _⟩ <;> exact sub2 (mem_ucRefs _ rfl) (mem_ucRefs _ rfl)

theorem sub_ops2 : ∀ op ∈ (ops2 : List (HloOp τ sig (Elt F))), op.bufs ⊆ ucRefs := by
  unfold ops2
  simp only [List.forall_mem_cons, StableHlo.reshape_bufs, StableHlo.unary_bufs, StableHlo.nullary_bufs, StableHlo.binary_bufs]
  refine ⟨?_, ?_, ?_, ?_, ?_, ?_, List.forall_mem_nil _⟩ <;>
    first
    | exact sub1 (mem_ucRefs _ (by rfl))
    | exact sub2 (mem_ucRefs _ (by rfl)) (mem_ucRefs _ (by rfl))
    | exact sub3 (mem_ucRefs _ (by rfl)) (mem_ucRefs _ (by rfl)) (mem_ucRefs _ (by rfl))

theorem sub_ops3 : ∀ op ∈ (ops3 : List (HloOp τ sig (Elt F))), op.bufs ⊆ ucRefs := by
  unfold ops3
  simp only [List.forall_mem_cons, StableHlo.reshape_bufs, StableHlo.unary_bufs, StableHlo.nullary_bufs, StableHlo.binary_bufs]
  refine ⟨?_, ?_, ?_, ?_, ?_, ?_, ?_, ?_, ?_, ?_, List.forall_mem_nil _⟩ <;>
    first
    | exact sub1 (mem_ucRefs _ (by rfl))
    | exact sub2 (mem_ucRefs _ (by rfl)) (mem_ucRefs _ (by rfl))
    | exact sub3 (mem_ucRefs _ (by rfl)) (mem_ucRefs _ (by rfl)) (mem_ucRefs _ (by rfl))

theorem sub_ops4 : ∀ op ∈ (ops4 : List (HloOp τ sig (Elt F))), op.bufs ⊆ ucRefs := by
  unfold ops4
  simp only [List.forall_mem_cons, StableHlo.reshape_bufs]
  exact ⟨sub2 (mem_ucRefs _ rfl) (mem_ucRefs _ rfl), List.forall_mem_nil _⟩

theorem fresh_ops1 : ∀ op ∈ (ops1 : List (HloOp τ sig (Elt F))), op.fresh = ∅ := by
  unfold ops1; simp only [List.forall_mem_cons]; exact ⟨rfl, rfl, rfl, List.forall_mem_nil _⟩
theorem fresh_ops2 : ∀ op ∈ (ops2 : List (HloOp τ sig (Elt F))), op.fresh = ∅ := by
  unfold ops2; simp only [List.forall_mem_cons]; exact ⟨rfl, rfl, rfl, rfl, rfl, rfl, List.forall_mem_nil _⟩
theorem fresh_ops3 : ∀ op ∈ (ops3 : List (HloOp τ sig (Elt F))), op.fresh = ∅ := by
  unfold ops3; simp only [List.forall_mem_cons]; exact ⟨rfl, rfl, rfl, rfl, rfl, rfl, rfl, rfl, rfl, rfl, List.forall_mem_nil _⟩
theorem fresh_ops4 : ∀ op ∈ (ops4 : List (HloOp τ sig (Elt F))), op.fresh = ∅ := by
  unfold ops4; simp only [List.forall_mem_cons]; exact ⟨rfl, List.forall_mem_nil _⟩

end Cert.Proof

end
-- ==== Proof.Run.lean ====
/-
  The whole program's run: the host's lines, the two pipelines and the SparseCore call in order, the contents of
  every unscoped buffer followed from the launch memory to the end.
-/
module

public import proofs.«01_k».proof.Proof.Main
public import Idealize.ShloMosaic.Lib.Pipeline.Value
public import Idealize.ShloMosaic.Lib.Pipeline.ValueKit

@[expose] public section

set_option maxRecDepth 2048

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

open Idealize.ShloMosaic.TcCoe
open Idealize.ShloMosaic.Pipeline (Dat BodyObligation)

/-! ## The contents of the unscoped buffers, line by line -/

/-- The two pipelines' proof data, each at the contents it finds. -/
def datsF (V : Dev nD → Valuation τ sig (Elt F)) : Dats F := fun p => match p with
  | 0 => fun c => dat0 V c
  | 1 => fun c => dat1 V c

variable (m : (ℓ : Loc nD τ sig) → Buf (Elt F) ℓ) (ρ : Dev nD → PrngReg)

def V0 (d : Dev nD) : Valuation τ sig (Elt F) := fun b => m (d, b)
def V1 (d : Dev nD) : Valuation τ sig (Elt F) := StableHlo.after ops1 (V0 m d)
def V2 (d : Dev nD) : Valuation τ sig (Elt F) := leaves 0 (datsF (V1 m)) (V1 m) d
def V3 (d : Dev nD) : Valuation τ sig (Elt F) := StableHlo.after ops2 (V2 m d)
def V4 (d : Dev nD) : Valuation τ sig (Elt F) := leaves 1 (datsF (V3 m)) (V3 m) d
def V5 (d : Dev nD) : Valuation τ sig (Elt F) := StableHlo.after ops3 (V4 m d)
/-- The index words the SparseCore call reads. -/
def fi (d : Dev nD) : S32x50x128.Idx → BitVec 32 := V5 m d (Proc.devRef .tc main_v16)
/-- The projected table it gathers from. -/
def fp (d : Dev nD) : S6400000.Idx → F .f32 := V5 m d (Proc.devRef .tc main_v17)
def V6 (d : Dev nD) : Valuation τ sig (Elt F) := Function.update (V5 m d) (Proc.devRef .tc main_v18) (bagOut (fi m d) (fp m d))
def V7 (d : Dev nD) : Valuation τ sig (Elt F) := StableHlo.after ops4 (V6 m d)

/-! ## The SparseCore call's three arrays among the buffers -/

/-- The other unscoped buffers. -/
def scRest : Finset (DevRef τ sig) :=
  ((ucRefs.erase (Proc.devRef .tc main_v16)).erase (Proc.devRef .tc main_v17)).erase (Proc.devRef .tc main_v18)

theorem held_split (d : Dev nD) (W : Valuation τ sig (Elt F)) :
    (StableHlo.held (T d) ucRefs W : sProp 𝕄) = iprop((iLoc d ↦{fullShare} W (Proc.devRef .tc main_v16))
      ∗ (pLoc d ↦{fullShare} W (Proc.devRef .tc main_v17)) ∗ (oLoc d ↦{fullShare} W (Proc.devRef .tc main_v18))
      ∗ StableHlo.held (T d) scRest W) := by
  have h17 : Proc.devRef (τ := τ) .tc main_v17 ∈ ucRefs.erase (Proc.devRef .tc main_v16) :=
    Finset.mem_erase.mpr ⟨StableHlo.devRef_ne_of_ne (by decide), mem_ucRefs _ rfl⟩
  have h18 : Proc.devRef (τ := τ) .tc main_v18 ∈ (ucRefs.erase (Proc.devRef .tc main_v16)).erase (Proc.devRef .tc main_v17) :=
    Finset.mem_erase.mpr ⟨StableHlo.devRef_ne_of_ne (by decide), Finset.mem_erase.mpr ⟨StableHlo.devRef_ne_of_ne (by decide), mem_ucRefs _ rfl⟩⟩
  unfold StableHlo.held scRest
  rw [SparseCore.bigSep_erase' (mem_ucRefs main_v16 rfl), SparseCore.bigSep_erase' h17, SparseCore.bigSep_erase' h18]

theorem V6_v18 (d : Dev nD) : V6 m d (Proc.devRef .tc main_v18) = bagOut (fi m d) (fp m d) := Function.update_self ..
theorem V6_of_ne (d : Dev nD) {b : DevRef τ sig} (h : b ≠ Proc.devRef .tc main_v18) : V6 m d b = V5 m d b := Function.update_of_ne h ..

theorem held_rest (d : Dev nD) : (StableHlo.held (T d) scRest (V6 m d) : sProp 𝕄) = StableHlo.held (T d) scRest (V5 m d) :=
  bigSep_congr fun b hb => by rw [V6_of_ne m d (Finset.ne_of_mem_erase hb)]

/-! ## The launch element -/

abbrev pins (F : FTy → Type) [FloatOps F] := Pipeline.pin (pcfgs (F := F)) adm

def u₀ : UU := (initOf (K (F := F)).hsCells (K (F := F)).hsToks,
  (initOf (Pipeline.cells (nD := nD) (τ := τ) (pins F) cellOf_inj) (Pipeline.launchToks (nD := nD) (τ := τ) (pins F) cellOf_inj), 1))

/-- What the launch deals a core for its pipelines. -/
def G (d : Dev nD) : sProp 𝕄 :=
  iprop((bigSep Finset.univ fun p : Fin 2 => Pipeline.cellsGhost (pins F) EP p d) ∗ bigSep Finset.univ fun p : Fin 2 => Pipeline.toksInit (pins F) EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (fi m) (fp m)).x q thr) := by
  unfold u₀ G
  rw [bigSep_sep']
  iintro Hu
  ihave H := (ownU_pair _ _) $$ Hu
  icases H with ⟨HH, HR⟩
  ihave H := (own_pair_emb embR _ _) $$ HR
  icases H with ⟨HP, -⟩
  imod (Pipeline.fund_ghost (pins F) EP cellOf_inj) $$ HP with ⟨Hg, Ht⟩
  imodintro
  isplitl [HH]; · iexact HH
  isplitl [Hg Ht]
  · isplitl [Hg]; · iexact Hg
    iexact Ht
  rw [show (bigSep Finset.univ fun thr : Thread nD τ => bigSep Finset.univ fun q : Fin 1 => (P (fi m) (fp m)).x q thr) = bigSep Finset.univ fun _ => iprop(emp) from
    bigSep_congr fun _ _ => bigSep_univ_of_subsingleton (0 : Fin 1), bigSep_emp']
  iempintro

/-! ## The steps of the program -/

/-- Pipeline 0, from the contents before it to those after. -/
theorem wp_fold (c : Dev nD) (Φ : PUnit → sProp 𝕄) :
    iprop((iprop(boundary (T c) ∗ unscopedBufs c (fun b => V2 m c b) ∗ owesT (F := F) c) -∗ Φ ⟨⟩)
        ∗ boundary (T c) ∗ unscopedBufs c (fun b => V1 m c b) ∗ owesT (F := F) c ∗ levAts (K (F := F)).L (K (F := F)).lev
        ∗ Pipeline.cellsGhost (pins F) EP 0 c ∗ Pipeline.toksInit (pins F) EP 0 c)
      ⊢ wp frame (wpE ((K (F := F)).defs (D (F := F))) 𝒱 (T c) none) Set.univ
          (Prog.lift (.customCall (SparseCore.inner (Pipeline.entry 0)) ())) Φ :=
  wp_region (F := F) 0 launch0.to₀ (datsF (V1 m)) (V1 m) (fun _ _ => rfl) (fun _ _ _ => rfl) (fun _ _ => rfl) (fun _ _ => rfl) (fun _ _ => rfl)
    (fun c => body0 (V1 m) c) c Φ

/-- Pipeline 1, from the contents before it to those after. -/
theorem wp_proj (c : Dev nD) (Φ : PUnit → sProp 𝕄) :
    iprop((iprop(boundary (T c) ∗ unscopedBufs c (fun b => V4 m c b) ∗ owesT (F := F) c) -∗ Φ ⟨⟩)
        ∗ boundary (T c) ∗ unscopedBufs c (fun b => V3 m c b) ∗ owesT (F := F) c ∗ levAts (K (F := F)).L (K (F := F)).lev
        ∗ Pipeline.cellsGhost (pins F) EP 1 c ∗ Pipeline.toksInit (pins F) EP 1 c)
      ⊢ wp frame (wpE ((K (F := F)).defs (D (F := F))) 𝒱 (T c) none) Set.univ
          (Prog.lift (.customCall (SparseCore.inner (Pipeline.entry 1)) ())) Φ :=
  wp_region (F := F) 1 launch₀1 (datsF (V3 m)) (V3 m) (fun _ _ => rfl) (fun _ _ _ => rfl) (fun _ _ => rfl) (fun _ _ => rfl) (fun _ _ => rfl)
    (fun c => body1 (V3 m) c) c Φ

set_option backward.isDefEq.respectTransparency.types false in
theorem wp_line (c : Dev nD) (ops : List (HloOp τ sig (Elt F))) (hS : ∀ op ∈ ops, op.bufs ⊆ ucRefs) (hf : ∀ op ∈ ops, op.fresh = ∅)
    (W : Valuation τ sig (Elt F)) (k : Prog (TpuEff nD τ sig (Elt F) (SparseCore.Sig (ΛP (F := F)) 1) .tc) PUnit) (Φ : PUnit → sProp 𝕄) :
    iprop(boundary (T c) ∗ unscopedBufs c (fun b => W b) ∗ (iprop(boundary (T c) ∗ unscopedBufs c (fun b => StableHlo.after ops W b))
        -∗ wp frame (wpE ((K (F := F)).defs (D (F := F))) 𝒱 (T c) none) Set.univ k Φ))
      ⊢ wp frame (wpE ((K (F := F)).defs (D (F := F))) 𝒱 (T c) none) Set.univ (StableHlo.seqK ops k) Φ := by
  rw [← StableHlo.seq_bind_seqK, unscopedBufs_held, unscopedBufs_held]
  iintro ⟨Hb, Hu, Hk⟩
  iapply (StableHlo.wp_seq 𝒱 none Set.univ c ucRefs (fun _ => k) ops hS hf W) $$ [Hb Hu]
  · isplitl [Hb]; · iexact Hb
    iexact Hu
  iexact Hk

/-- The SparseCore call, from the contents before it to those after. -/
theorem wp_bag (κ : GSem nD τ sig → ℕ) (d : Dev nD) (Φ : PUnit → sProp 𝕄) :
    iprop((K (F := F)).ctx EH (P (fi m) (fp m)) κ ∗ (K (F := F)).tcSt EH d 0 ∗ unscopedBufs d (fun b => V5 m d b)
        ∗ (iprop((K (F := F)).tcSt EH d 1 ∗ unscopedBufs d (fun b => V6 m d b)) -∗ Φ ⟨⟩))
      ⊢ wp frame (wpE ((K (F := F)).defs (D (F := F))) 𝒱 (T d) none) Set.univ (sc.run d 0) Φ := by
  rw [unscopedBufs_held, unscopedBufs_held, held_split, held_split, held_rest, V6_v18,
    V6_of_ne m d (StableHlo.devRef_ne_of_ne (by decide : main_v16 ≠ main_v18)), V6_of_ne m d (StableHlo.devRef_ne_of_ne (by decide : main_v17 ≠ main_v18))]
  have hin := st_intro (fi m) (fp m) d (V5 m d (Proc.devRef .tc main_v18))
  have hout := dn_elim (fi m) (fp m) d
  iintro ⟨#Hctx, Hst, ⟨Hi, Hp, Ho, Hr⟩, Hk⟩
  iapply ((K (F := F)).wp_run (D (F := F)) 𝒱 (EH := EH) (P := P (fi m) (fp m)) κ d 0)
  isplitr; · iexact Hctx
  isplitl [Hst]; · iexact Hst
  isplitl [Hi Hp Ho]
  · iapply hin
    isplitl [Hi]; · iexact Hi
    isplitl [Hp]; · iexact Hp
    iexact Ho
  iintro ⟨Hst, Hdn⟩
  ihave H := hout $$ Hdn
  icases H with ⟨Hi, Hp, Ho⟩
  iapply Hk
  isplitl [Hst]; · iexact Hst
  isplitl [Hi]; · iexact Hi
  isplitl [Hp]; · iexact Hp
  isplitl [Ho]; · iexact Ho
  iexact Hr

theorem bigSep_two (Φ : Fin 2 → sProp 𝕄) : bigSep Finset.univ Φ = iprop(Φ 0 ∗ Φ 1) := BI.bigSep_fin_two Φ

/-- The core's state before the call: what it owes, and the rest. -/
theorem tcSt_owes (d : Dev nD) : ∃ R : sProp 𝕄, ((K (F := F)).tcSt EH d 0 : sProp 𝕄) = iprop(owesT (F := F) d ∗ R) := ⟨_, rfl⟩

/-- What the core holds when the program is over. -/
abbrev FIN (d : Dev nD) : sProp 𝕄 := unscopedBufs d (fun b => V7 m d b)

theorem hmain (κ : GSem nD τ sig → ℕ) (d : Dev nD) :
    iprop((K (F := F)).ctx EH (P (fi m) (fp m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  obtain ⟨R, hR⟩ := tcSt_owes (F := F) d
  rw [main_eq, bigSep_two, bigSep_two, hR]
  have hlev := SparseCore.Cfg.ctx_levAts (K := K (F := F)) (EH := EH) (P := P (fi m) (fp m)) (lv := (K (F := F)).lev) κ
  iintro ⟨#Hctx, ⟨HO, Hst⟩, ⟨Hb, Hu, Hts, -⟩, ⟨Hg0, Hg1⟩, ⟨Ht0, Ht1⟩⟩
  iapply (wp_line d ops1 sub_ops1 fresh_ops1 (V0 m d))
  isplitl [Hb]; · iexact Hb
  isplitl [Hu]; · iexact Hu
  iintro ⟨Hb, Hu⟩
  rw [wp_bind]
  iapply (wp_fold m d)
  isplitr [Hb Hu HO Hg0 Ht0]
  · iintro ⟨Hb, Hu, HO⟩
    iapply (wp_line d ops2 sub_ops2 fresh_ops2 (V2 m d))
    isplitl [Hb]; · iexact Hb
    isplitl [Hu]; · iexact Hu
    iintro ⟨Hb, Hu⟩
    rw [wp_bind]
    iapply (wp_proj m d)
    isplitr [Hb Hu HO Hg1 Ht1]
    · iintro ⟨Hb, Hu, HO⟩
      iapply (wp_line d ops3 sub_ops3 fresh_ops3 (V4 m d))
      isplitl [Hb]; · iexact Hb
      isplitl [Hu]; · iexact Hu
      iintro ⟨Hb, Hu⟩
      rw [wp_bind]
      iapply (wp_bag m κ d)
      isplitr; · iexact Hctx
      isplitl [Hst HO]
      · rw [hR]
        isplitl [HO]; · iexact HO
        iexact Hst
      isplitl [Hu]; · iexact Hu
      iintro ⟨Hst, Hu⟩
      iapply (wp_line d ops4 sub_ops4 fresh_ops4 (V6 m d))
      isplitl [Hb]; · iexact Hb
      isplitl [Hu]; · iexact Hu
      iintro ⟨Hb, Hu⟩
      rw [wp_pure]
      imodintro
      isplitl [Hst]; · iexact Hst
      isplitl [Hu]; · iexact Hu
      isplitl [Hb] <;> iassumption
    isplitl [Hb]; · iexact Hb
    isplitl [Hu]; · iexact Hu
    isplitl [HO]; · iexact HO
    isplitr; · iapply hlev; iexact Hctx
    isplitl [Hg1]; · iexact Hg1
    iexact Ht1
  isplitl [Hb]; · iexact Hb
  isplitl [Hu]; · iexact Hu
  isplitl [HO]; · iexact HO
  isplitr; · iapply hlev; iexact Hctx
  isplitl [Hg0]; · iexact Hg0
  iexact Ht0

/-! ## The run -/

/-- What a device's memory is then: every unscoped buffer at its last contents. -/
def fq (d : Dev nD) (s' : Phys nD τ sig (Elt F)) : Prop := ∀ b ∈ ucRefs, s'.mem.mem (d, b) = V7 m d b

theorem hfin (d : Dev nD) (s' : Phys nD τ sig (Elt F)) : iprop(FIN m d ∗ SI s') ⊢ (⌜fq m d s'⌝ : sProp 𝕄) := by
  unfold FIN
  rw [unscopedBufs_held]
  unfold StableHlo.held
  iintro ⟨H, HSI⟩
  ihave %h := (SI_pointsTo_bufs_agree (qs := fun _ => fullShare) ucRefs) $$ [HSI H]
  · isplitl [HSI]; · iexact HSI
    iexact H
  ipureintro
  exact h

/-- The end of a run: every unscoped buffer at its last contents, every counter at zero. -/
def QC : PUnit × MemSt nD τ sig (Elt F) → Prop := fun r => (∀ d : Dev nD, ∀ b ∈ ucRefs, r.2.mem (d, b) = V7 m d b) ∧ r.2.sem = fun _ => 0

theorem run_main [∀ e, Nonempty (Elt F e)] (hfi : ∀ d, InTable (fi m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (fi m) (fp m)) (A := ∅) facts v₀
    (fun q hq => match q with | 0 => nomatch hq)
    (fun q _ => match q with | 0 => tileObl (fi m) (fp m) hfi)
    (fun q _ => match q with | 0 => SparseCore.Cfg.VecSplit.of_plain (vecSplit (fi m) (fp m)))
    m ρ main (fun d => G (F := F) d) (FIN m) (u₀ (F := F)) (sep_elim_left.trans (hu₀ m)) (hmain m ρ) (fq m) (hfin m) (QC m) (fun _ h hz => ⟨h, hz⟩)

end Cert.Proof

end
-- ==== Proof.Host.lean ====
/-
  The contents of the buffers as functions of the launch memory: the arguments kept, the folded weights, the
  projected table, the flat index words, the result.
-/
module

public import proofs.«01_k».proof.Proof.Run
public import Idealize.ShloMosaic.Lib.ValueLayout
public import Idealize.ShloMosaic.Lib.Pipeline.Value
public import Idealize.ShloMosaic.Lib.Pipeline.ValueKit

@[expose] public section

set_option maxRecDepth 2048

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

open Idealize.ShloMosaic.TcCoe
open Idealize.ShloMosaic.Pipeline (Dat BodyObligation)

/-! ## What a line of operations leaves alone -/

theorem keep1 (W : Valuation τ sig (Elt F)) (b : Ref sig .tc) (hb : b ∉ [main_v0, main_v1, main_v2]) :
    StableHlo.after ops1 W (Proc.devRef .tc b) = W (Proc.devRef .tc b) :=
  StableHlo.after_of_writes_sub ops1 W (StableHlo.forall_writes_sub_of_map rfl) hb

theorem keep2 (W : Valuation τ sig (Elt F)) (b : Ref sig .tc) (hb : b ∉ [main_v4, main_v5, main_c, main_call0_v0, main_v6, main_v7]) :
    StableHlo.after ops2 W (Proc.devRef .tc b) = W (Proc.devRef .tc b) :=
  StableHlo.after_of_writes_sub ops2 W (StableHlo.forall_writes_sub_of_map rfl) hb

theorem keep3 (W : Valuation τ sig (Elt F)) (b : Ref sig .tc)
    (hb : b ∉ [main_c_0, main_v9, main_v10, main_v11, main_v12, main_v13, main_v14, main_v15, main_v16, main_v17]) :
    StableHlo.after ops3 W (Proc.devRef .tc b) = W (Proc.devRef .tc b) :=
  StableHlo.after_of_writes_sub ops3 W (StableHlo.forall_writes_sub_of_map rfl) hb

theorem keep4 (W : Valuation τ sig (Elt F)) (b : Ref sig .tc) (hb : b ∉ [main_v19]) :
    StableHlo.after ops4 W (Proc.devRef .tc b) = W (Proc.devRef .tc b) :=
  StableHlo.after_of_writes_sub ops4 W (StableHlo.forall_writes_sub_of_map rfl) hb

/-! ## What a pipeline leaves -/

theorem leaves0_at (V : Dev nD → Valuation τ sig (Elt F)) (c : Dev nD) (w : Fin cfg0.W) :
    leaves 0 (datsF V) V c (Proc.devRef .tc (Pipeline.arrRef spec0 w)) = (dat0 V c).arrAt w cfg0.N :=
  (dat0 V c).withArrays_arrAt launch0.to₀.sharedIn (V c) (fun _ => rfl) w

theorem leaves1_at (V : Dev nD → Valuation τ sig (Elt F)) (c : Dev nD) (w : Fin cfg1.W) :
    leaves 1 (datsF V) V c (Proc.devRef .tc (Pipeline.arrRef spec1 w)) = (dat1 V c).arrAt w cfg1.N :=
  (dat1 V c).withArrays_arrAt sharedIn1 (V c) (fun _ => rfl) w

theorem leaves0_keep (V : Dev nD → Valuation τ sig (Elt F)) (c : Dev nD) (b : Ref sig .tc) (hb : ∀ w, Pipeline.arrRef spec0 w ≠ b) :
    leaves 0 (datsF V) V c (Proc.devRef .tc b) = V c (Proc.devRef .tc b) :=
  Pipeline.withArrays_of_ne spec0 c (V c) _ b hb

theorem leaves1_keep (V : Dev nD → Valuation τ sig (Elt F)) (c : Dev nD) (b : Ref sig .tc) (hb : ∀ w, Pipeline.arrRef spec1 w ≠ b) :
    leaves 1 (datsF V) V c (Proc.devRef .tc b) = V c (Proc.devRef .tc b) :=
  Pipeline.withArrays_of_ne spec1 c (V c) _ b hb

/-- The first pipeline leaves an array it only reads. -/
theorem leaves0_in (V : Dev nD → Valuation τ sig (Elt F)) (c : Dev nD) (w : Fin cfg0.W) (hw : (cfg0.win w).isOut = false) :
    leaves 0 (datsF V) V c (Proc.devRef .tc (Pipeline.arrRef spec0 w)) = V c (Proc.devRef .tc (Pipeline.arrRef spec0 w)) :=
  (leaves0_at V c w).trans ((dat0 V c).arrAt_in w hw _)

variable (m : (ℓ : Loc nD τ sig) → Buf (Elt F) ℓ)

/-! ## The program's arguments, at every stage -/

theorem late_keep (d : Dev nD) (b : Ref sig .tc) (h4 : b ∉ [main_v19]) (h6 : b ≠ main_v18)
    (h3 : b ∉ [main_c_0, main_v9, main_v10, main_v11, main_v12, main_v13, main_v14, main_v15, main_v16, main_v17])
    (h1 : ∀ w, Pipeline.arrRef spec1 w ≠ b) (h2 : b ∉ [main_v4, main_v5, main_c, main_call0_v0, main_v6, main_v7]) :
    V7 m d (Proc.devRef .tc b) = V2 m d (Proc.devRef .tc b) :=
  (keep4 _ b h4).trans ((V6_of_ne m d (StableHlo.devRef_ne_of_ne h6)).trans
    ((keep3 _ b h3).trans ((leaves1_keep _ d b h1).trans (keep2 _ b h2))))

theorem V7_arg0 (d : Dev nD) : V7 m d (Proc.devRef .tc main_arg0) = m ((SparseCore.T d).loc main_arg0) :=
  (late_keep m d main_arg0 (by decide) (by decide) (by decide) (by decide) (by decide)).trans
    ((leaves0_keep _ d main_arg0 (by decide)).trans (keep1 _ main_arg0 (by decide)))
theorem V7_arg1 (d : Dev nD) : V7 m d (Proc.devRef .tc main_arg1) = m ((SparseCore.T d).loc main_arg1) :=
  (late_keep m d main_arg1 (by decide) (by decide) (by decide) (by decide) (by decide)).trans
    ((leaves0_keep _ d main_arg1 (by decide)).trans (keep1 _ main_arg1 (by decide)))
theorem V7_arg2 (d : Dev nD) : V7 m d (Proc.devRef .tc main_arg2) = m ((SparseCore.T d).loc main_arg2) :=
  (late_keep m d main_arg2 (by decide) (by decide) (by decide) (by decide) (by decide)).trans
    ((leaves0_in (V1 m) d 0 rfl).trans (keep1 _ main_arg2 (by decide)))
theorem V7_arg3 (d : Dev nD) : V7 m d (Proc.devRef .tc main_arg3) = m ((SparseCore.T d).loc main_arg3) :=
  (late_keep m d main_arg3 (by decide) (by decide) (by decide) (by decide) (by decide)).trans
    ((leaves0_keep _ d main_arg3 (by decide)).trans (keep1 _ main_arg3 (by decide)))
theorem V7_arg4 (d : Dev nD) : V7 m d (Proc.devRef .tc main_arg4) = m ((SparseCore.T d).loc main_arg4) :=
  (late_keep m d main_arg4 (by decide) (by decide) (by decide) (by decide) (by decide)).trans
    ((leaves0_in (V1 m) d 1 rfl).trans (keep1 _ main_arg4 (by decide)))
theorem V7_arg5 (d : Dev nD) : V7 m d (Proc.devRef .tc main_arg5) = m ((SparseCore.T d).loc main_arg5) :=
  (late_keep m d main_arg5 (by decide) (by decide) (by decide) (by decide) (by decide)).trans
    ((leaves0_keep _ d main_arg5 (by decide)).trans (keep1 _ main_arg5 (by decide)))
theorem V7_arg6 (d : Dev nD) : V7 m d (Proc.devRef .tc main_arg6) = m ((SparseCore.T d).loc main_arg6) :=
  (late_keep m d main_arg6 (by decide) (by decide) (by decide) (by decide) (by decide)).trans
    ((leaves0_in (V1 m) d 2 rfl).trans (keep1 _ main_arg6 (by decide)))
theorem V7_arg7 (d : Dev nD) : V7 m d (Proc.devRef .tc main_arg7) = m ((SparseCore.T d).loc main_arg7) :=
  (late_keep m d main_arg7 (by decide) (by decide) (by decide) (by decide) (by decide)).trans
    ((leaves0_keep _ d main_arg7 (by decide)).trans (keep1 _ main_arg7 (by decide)))

/-! ## The first pipeline's results -/

theorem V1_v0 (d : Dev nD) : V1 m d (Proc.devRef .tc main_v0) = shapeCast S1x32 (m ((SparseCore.T d).loc main_arg3)) shapeCasts_S32_S1x32 := by
  show StableHlo.after ops1 (V0 m d) _ = _
  unfold ops1
  after_results_simp
  rfl
theorem V1_v1 (d : Dev nD) : V1 m d (Proc.devRef .tc main_v1) = shapeCast S1x32 (m ((SparseCore.T d).loc main_arg5)) shapeCasts_S32_S1x32 := by
  show StableHlo.after ops1 (V0 m d) _ = _
  unfold ops1
  after_results_simp
  rfl
theorem V1_v2 (d : Dev nD) : V1 m d (Proc.devRef .tc main_v2) = shapeCast S1x1 (m ((SparseCore.T d).loc main_arg7)) shapeCasts_S1_S1x1 := by
  show StableHlo.after ops1 (V0 m d) _ = _
  unfold ops1
  after_results_simp
  rfl

/-- The folded column, of the weights. -/
def veff (d : Dev nD) : Vec F S3200x1 .f32 := foldV (m ((SparseCore.T d).loc main_arg2)) (m ((SparseCore.T d).loc main_arg4)) (m ((SparseCore.T d).loc main_arg6))
/-- The folded offset, of the weights and the biases. -/
def coff (d : Dev nD) : Vec F S1x1 .f32 := foldC (m ((SparseCore.T d).loc main_arg4)) (m ((SparseCore.T d).loc main_arg6))
  (shapeCast S1x32 (m ((SparseCore.T d).loc main_arg3)) shapeCasts_S32_S1x32) (shapeCast S1x32 (m ((SparseCore.T d).loc main_arg5)) shapeCasts_S32_S1x32)
  (shapeCast S1x1 (m ((SparseCore.T d).loc main_arg7)) shapeCasts_S1_S1x1)

theorem V1_arg2 (d : Dev nD) : V1 m d (Proc.devRef .tc main_arg2) = m ((SparseCore.T d).loc main_arg2) := keep1 _ main_arg2 (by decide)
theorem V1_arg4 (d : Dev nD) : V1 m d (Proc.devRef .tc main_arg4) = m ((SparseCore.T d).loc main_arg4) := keep1 _ main_arg4 (by decide)
theorem V1_arg6 (d : Dev nD) : V1 m d (Proc.devRef .tc main_arg6) = m ((SparseCore.T d).loc main_arg6) := keep1 _ main_arg6 (by decide)

theorem V2_v3_0 (d : Dev nD) : V2 m d (Proc.devRef .tc main_v3_0) = veff m d := by
  refine (leaves0_at (V1 m) d 6).trans ((arr0_6 (V1 m) d).trans ?_)
  rw [V1_arg2, V1_arg4, V1_arg6]; rfl
theorem V2_v3_1 (d : Dev nD) : V2 m d (Proc.devRef .tc main_v3_1) = coff m d := by
  refine (leaves0_at (V1 m) d 7).trans ((arr0_7 (V1 m) d).trans ?_)
  rw [V1_arg4, V1_arg6, V1_v0, V1_v1, V1_v2]; rfl
theorem V2_arg1 (d : Dev nD) : V2 m d (Proc.devRef .tc main_arg1) = m ((SparseCore.T d).loc main_arg1) :=
  (leaves0_keep _ d main_arg1 (by decide)).trans (keep1 _ main_arg1 (by decide))
theorem V2_arg0 (d : Dev nD) : V2 m d (Proc.devRef .tc main_arg0) = m ((SparseCore.T d).loc main_arg0) :=
  (leaves0_keep _ d main_arg0 (by decide)).trans (keep1 _ main_arg0 (by decide))

/-! ## The second pipeline's operands and result -/

/-- The folded column as the second pipeline's right operand: one column per position, padded. -/
def vmat (v : Vec F S3200x1 .f32) : Vec F S64x64 .f32 :=
  pad S64x64 ![0, 0] ![0, 14] ![0, 0] (transpose S64x50 [1, 0] (shapeCast S50x64 v shapeCasts_S3200x1_S50x64) transposes_S50x64_S64x50_1_0)
    (sitofp .f32 (constantI S_ 32 0#32)) pads_S64x50_S64x64_000_0140 h_S_

theorem V3_v6 (d : Dev nD) : V3 m d (Proc.devRef .tc main_v6) = vmat (veff m d) := by
  rw [← V2_v3_0]
  show StableHlo.after ops2 (V2 m d) _ = _
  unfold ops2
  after_results_simp
  rfl
theorem V3_v7 (d : Dev nD) : V3 m d (Proc.devRef .tc main_v7)
    = shapeCast S10x10000x64 (m ((SparseCore.T d).loc main_arg1)) shapeCasts_S100000x64_S10x10000x64 := by
  rw [← V2_arg1 m d]
  show StableHlo.after ops2 (V2 m d) _ = _
  unfold ops2
  after_results_simp
  rfl
theorem V3_v3_1 (d : Dev nD) : V3 m d (Proc.devRef .tc main_v3_1) = coff m d :=
  (keep2 _ main_v3_1 (by decide)).trans (V2_v3_1 m d)

theorem V4_v8 (d : Dev nD) : V4 m d (Proc.devRef .tc main_v8)
    = projArr (vmat (veff m d)) (coff m d) (shapeCast S10x10000x64 (m ((SparseCore.T d).loc main_arg1)) shapeCasts_S100000x64_S10x10000x64) := by
  refine (leaves1_at (V3 m) d 12).trans ((arr1_12 (V3 m) d).trans ?_)
  rw [V3_v6, V3_v7, V3_v3_1]
theorem V4_arg0 (d : Dev nD) : V4 m d (Proc.devRef .tc main_arg0) = m ((SparseCore.T d).loc main_arg0) :=
  (leaves1_keep _ d main_arg0 (by decide)).trans ((keep2 _ main_arg0 (by decide)).trans (V2_arg0 m d))

/-! ## The SparseCore call's operands -/

/-- The flat index words: row of the table times its width, plus the position. -/
def fidx (a : S4096x50.Idx → BitVec 32) : S32x50x128.Idx → BitVec 32 :=
  transpose S32x50x128 [0, 2, 1] (shapeCast S32x128x50
    (addi (muli a (broadcastInDim S4096x50 ![] bcast_S_S4096x50 (constantI S_ 32 64#32)))
      (broadcastInDim S4096x50 ![0, 1] bcast_S1x50_S4096x50_0_1 (broadcastInDim S1x50 ![1] bcast_S50_S1x50_1 (iotaInDim S50 32 0))))
    shapeCasts_S4096x50_S32x128x50) transposes_S32x128x50_S32x50x128_0_2_1

theorem fi_eq (d : Dev nD) : fi m d = fidx (m ((SparseCore.T d).loc main_arg0)) := by
  rw [← V4_arg0 m d]
  show StableHlo.after ops3 (V4 m d) _ = _
  unfold ops3
  after_results_simp
  rfl

theorem fp_eq (d : Dev nD) : fp m d = shapeCast S6400000 (projArr (vmat (veff m d)) (coff m d)
    (shapeCast S10x10000x64 (m ((SparseCore.T d).loc main_arg1)) shapeCasts_S100000x64_S10x10000x64)) shapeCasts_S10x10000x64_S6400000 := by
  rw [← V4_v8]
  show StableHlo.after ops3 (V4 m d) _ = _
  unfold ops3
  after_results_simp
  rfl

theorem V7_v19 (d : Dev nD) : V7 m d (Proc.devRef .tc main_v19) = shapeCast S4096x1 (bagOut (fi m d) (fp m d)) shapeCasts_S4096_S4096x1 := by
  rw [← V6_v18]
  show StableHlo.after ops4 (V6 m d) _ = _
  unfold ops4
  after_results_simp
  rfl

end Cert.Proof

end
-- ==== Proof.Words.lean ====
/-
  The words of the flat index array, and the two preconditions read back: each index names a row of the table,
  and the float arguments the value claim asks about are real numbers.
-/
module

public import proofs.«01_k».proof.Proof.Host
public import proofs.«01_k».proof.Proof.Gen.Pre_in_vocab
public import proofs.«01_k».proof.Proof.Gen.Pre_in_vocab_finite
public import Idealize.ShloMosaic.Lib.ReduceAll
public import Idealize.ShloMosaic.Lib.WordCmp
public import Idealize.ShloMosaic.PureOps.Ideal.Laws
public import Idealize.ShloMosaic.Lib.ValueLayout
public import Idealize.ShloMosaic.Lib.Pipeline.Value
public import Idealize.ShloMosaic.Lib.Pipeline.ValueKit

@[expose] public section

set_option maxRecDepth 2048

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

open Idealize.ShloMosaic.TcCoe
open Idealize.ShloMosaic.Pipeline (Dat BodyObligation)

/-! ## The words of the flat index array -/

/-- Row `w`'s word for position `l` and bag `j`: the table row of that bag and position, times 64, plus the position. -/
theorem fidx_apply (a : S4096x50.Idx → BitVec 32) (w : Fin 32) (l : Fin 50) (j : Fin 128) :
    fidx a (ValueIdx.ix3 w l j) = a (ValueIdx.ix2 (⟨w.val * 128 + j.val, by omega⟩ : Fin 4096) l) * 64#32 + BitVec.ofNat 32 l.val := by
  unfold fidx
  refine (ValueIdx.transpose_ix3_021_apply _ transposes_S32x128x50_S32x50x128_0_2_1 w l j).trans ?_
  refine (shapeCast_apply _ shapeCasts_S4096x50_S32x128x50 (ValueIdx.ix3 w j l)
    (ValueIdx.ix2 (⟨w.val * 128 + j.val, by omega⟩ : Fin 4096) l) ?_).trans ?_
  · rw [Shape.rowMajor_val_two, Shape.rowMajor_val_three]; rfl
  · show _ * _ + _ = _
    congr 1

theorem fidx_toNat (a : S4096x50.Idx → BitVec 32) (ha : ∀ y, (a y).toNat < 100000) (w : Fin 32) (l : Fin 50) (j : Fin 128) :
    (fidx a (ValueIdx.ix3 w l j)).toNat = (a (ValueIdx.ix2 (⟨w.val * 128 + j.val, by omega⟩ : Fin 4096) l)).toNat * 64 + l.val := by
  have h := ha (ValueIdx.ix2 (⟨w.val * 128 + j.val, by omega⟩ : Fin 4096) l)
  rw [fidx_apply, BitVec.toNat_add, BitVec.toNat_mul, BitVec.toNat_ofNat, BitVec.toNat_ofNat]
  omega

theorem fidx_inTable (a : S4096x50.Idx → BitVec 32) (ha : ∀ y, (a y).toNat < 100000) : InTable (fidx a) := by
  intro y
  have e : y = ValueIdx.ix3 (y 0) (y 1) (y 2) := by funext x; fin_cases x <;> rfl
  have h := ha (ValueIdx.ix2 (⟨(y 0).val * 128 + (y 2).val, by have h0 := (y 0).isLt; have h2 := (y 2).isLt; change _ < 32 at h0; change _ < 128 at h2; omega⟩ : Fin 4096) (y 1))
  rw [e]
  refine lt_of_eq_of_lt (fidx_toNat a ha (y 0) (y 1) (y 2)) ?_
  have h1 : (y 1).val < 50 := (y 1).isLt
  omega

/-! ## The preconditions read back -/

theorem word_of_bits (v : BitVec 32) (h0 : IntOp.cmpi .sge v 0#32 = 1#1) (h1 : IntOp.cmpi .slt v 100000#32 = 1#1) : v.toNat < 100000 := by
  simp only [IntOp.cmpi, WordCmp.ofBool_eq_one_iff, BitVec.sle_eq_decide, BitVec.slt_eq_decide,
    decide_eq_true_eq, BitVec.toInt_eq_toNat_cond, BitVec.toNat_ofNat, Nat.reducePow, Nat.reduceMod] at h0 h1
  omega

instance : Subsingleton S_.Idx := ⟨fun a b => funext fun x => x.elim0⟩

theorem inVocab_read [FloatOps F] (a0 : IVec S4096x50 32) (a1 : FVec F S100000x64 .f32) (a2 : FVec F S3200x32 .f32) (a3 : FVec F S32 .f32)
    (a4 : FVec F S32x32 .f32) (a5 : FVec F S32 .f32) (a6 : FVec F S32x1 .f32) (a7 : FVec F S1 .f32)
    (h : Cert.Pre_in_vocab.fn a0 a1 a2 a3 a4 a5 a6 a7 = fun _ => 1#1) (y : S4096x50.Idx) : (a0 y).toNat < 100000 := by
  have e := congrFun h ValueIdx.ix0
  obtain ⟨e0, e1⟩ := IntOp.andi_eq_one.1 e
  exact word_of_bits _ (Host.reduce_andi_all _ _ _ _ _ e0 y) (Host.reduce_andi_all _ _ _ _ _ e1 y)

/-- A value whose magnitude is below the infinity is a real number. -/
theorem finite_of_bit (x : Ideal .f32)
    (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by simpa [WordCmp.ofBool_eq_one_iff] using h
  obtain ⟨h1, h2⟩ := max_lt_iff.1 hlt
  refine ⟨EReal.toReal x, (EReal.coe_toReal h1.ne ?_).symm⟩
  intro hb
  rw [hb] at h2
  exact absurd h2 (by simp)

/-- What the precondition of the value claim says: rows of the table named, and real entries. -/
structure Good (a0 : IVec S4096x50 32) (a1 : FVec Ideal S100000x64 .f32) (a2 : FVec Ideal S3200x32 .f32) (a3 : FVec Ideal S32 .f32)
    (a4 : FVec Ideal S32x32 .f32) (a6 : FVec Ideal S32x1 .f32) : Prop where
  word : ∀ y, (a0 y).toNat < 100000
  f1 : ∀ y, ∃ r : ℝ, a1 y = (r : EReal)
  f2 : ∀ y, ∃ r : ℝ, a2 y = (r : EReal)
  f3 : ∀ y, ∃ r : ℝ, a3 y = (r : EReal)
  f4 : ∀ y, ∃ r : ℝ, a4 y = (r : EReal)
  f6 : ∀ y, ∃ r : ℝ, a6 y = (r : EReal)

theorem good_of_pre (a0 : IVec S4096x50 32) (a1 : FVec Ideal S100000x64 .f32) (a2 : FVec Ideal S3200x32 .f32) (a3 : FVec Ideal S32 .f32)
    (a4 : FVec Ideal S32x32 .f32) (a5 : FVec Ideal S32 .f32) (a6 : FVec Ideal S32x1 .f32) (a7 : FVec Ideal S1 .f32)
    (h : Cert.Pre_in_vocab_finite.fn a0 a1 a2 a3 a4 a5 a6 a7 = fun _ => 1#1) : Good a0 a1 a2 a3 a4 a6 := by
  have e := congrFun h ValueIdx.ix0
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e, e0⟩ := IntOp.andi_eq_one.1 e
  exact ⟨fun y => word_of_bits _ (Host.reduce_andi_all _ _ _ _ _ e y) (Host.reduce_andi_all _ _ _ _ _ e0 y),
    fun y => finite_of_bit _ (Host.reduce_andi_all _ _ _ _ _ e1 y), fun y => finite_of_bit _ (Host.reduce_andi_all _ _ _ _ _ e2 y),
    fun y => finite_of_bit _ (Host.reduce_andi_all _ _ _ _ _ e3 y), fun y => finite_of_bit _ (Host.reduce_andi_all _ _ _ _ _ e4 y),
    fun y => finite_of_bit _ (Host.reduce_andi_all _ _ _ _ _ e6 y)⟩

end Cert.Proof

end
-- ==== Proof.Frames.lean ====
/-
  The frame claims: the kernel at both instances and the reference leave their arguments and their semaphores.
-/
module

public import proofs.«01_k».proof.Defs
public import proofs.«01_k».proof.Proof.Words
public import proofs.«01_k».proof.Proof.Gen.Kernel
public import proofs.«01_k».proof.Proof.Gen.ReferenceIdeal.Run
public import Idealize.ShloMosaic.Lib.ValueLayout
public import Idealize.ShloMosaic.Lib.Pipeline.Value
public import Idealize.ShloMosaic.Lib.Pipeline.ValueKit

@[expose] public section

set_option maxRecDepth 2048

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

open Idealize.ShloMosaic.TcCoe
open Idealize.ShloMosaic.Pipeline (Dat BodyObligation)

/-! ## The frames -/

theorem fi_inTable {F : FTy → Type} [FloatOps F] (m : (ℓ : Loc nD τ sig) → Buf (Elt F) ℓ)
    (h : ∀ d : Dev nD, ∀ y, (m ((SparseCore.T d).loc main_arg0) y).toNat < 100000) (d : Dev nD) : InTable (fi m d) := by
  rw [fi_eq]; exact fidx_inTable _ (h d)

/-- What a run leaves in the program's arguments. -/
theorem kept {F : FTy → Type} [FloatOps F] (m : (ℓ : Loc nD τ sig) → Buf (Elt F) ℓ) (r : PUnit × MemSt nD τ sig (Elt F)) (h : QC m r) (d : Dev nD) :
    r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)
    ∧ r.2.mem ((SparseCore.T d).loc main_arg4) = m ((SparseCore.T d).loc main_arg4)
    ∧ r.2.mem ((SparseCore.T d).loc main_arg5) = m ((SparseCore.T d).loc main_arg5)
    ∧ r.2.mem ((SparseCore.T d).loc main_arg6) = m ((SparseCore.T d).loc main_arg6)
    ∧ r.2.mem ((SparseCore.T d).loc main_arg7) = m ((SparseCore.T d).loc main_arg7) :=
  ⟨(h.1 d _ (mem_ucRefs main_arg0 (by rfl))).trans (V7_arg0 m d), (h.1 d _ (mem_ucRefs main_arg1 (by rfl))).trans (V7_arg1 m d),
    (h.1 d _ (mem_ucRefs main_arg2 (by rfl))).trans (V7_arg2 m d), (h.1 d _ (mem_ucRefs main_arg3 (by rfl))).trans (V7_arg3 m d),
    (h.1 d _ (mem_ucRefs main_arg4 (by rfl))).trans (V7_arg4 m d), (h.1 d _ (mem_ucRefs main_arg5 (by rfl))).trans (V7_arg5 m d),
    (h.1 d _ (mem_ucRefs main_arg6 (by rfl))).trans (V7_arg6 m d), (h.1 d _ (mem_ucRefs main_arg7 (by rfl))).trans (V7_arg7 m d)⟩

/-- The kernel's run, of which only the arguments and the semaphores are kept. -/
theorem frame_run {F : FTy → Type} [FloatOps F] [∀ e, Nonempty (Elt F e)] (m : (ℓ : Loc nD τ sig) → Buf (Elt F) ℓ) (ρ : Dev nD → PrngReg)
    (h : ∀ d : Dev nD, ∀ y, (m ((SparseCore.T d).loc main_arg0) y).toNat < 100000) :
    θ_run (Cert.KernelIdeal.defs (F := F)) (Cert.KernelIdeal.threads (F := F)) ⟨m, fun _ => 0, ρ⟩ fun r =>
      (∀ c : Dev nD, r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2)
        ∧ r.2.mem ((SparseCore.T c).loc main_arg3) = m ((SparseCore.T c).loc main_arg3)
        ∧ r.2.mem ((SparseCore.T c).loc main_arg4) = m ((SparseCore.T c).loc main_arg4)
        ∧ r.2.mem ((SparseCore.T c).loc main_arg5) = m ((SparseCore.T c).loc main_arg5)
        ∧ r.2.mem ((SparseCore.T c).loc main_arg6) = m ((SparseCore.T c).loc main_arg6)
        ∧ r.2.mem ((SparseCore.T c).loc main_arg7) = m ((SparseCore.T c).loc main_arg7)) ∧ r.2.sem = fun _ => 0 :=
  (θ_run _ _ _).mono (fun r hr => ⟨fun c => kept m r hr c, hr.2⟩) (run_main m ρ (fi_inTable m h))

section
variable {F : FTy → Type} [FloatOps F]

theorem body_fold (a) : Cert.KernelIdeal.defs₀ (F := F) .tc 0 a = Cert.Kernel.defs₀ (F := F) .tc 0 a := rfl
theorem body_proj (a) : Cert.KernelIdeal.defs₀ (F := F) .tc 1 a = Cert.Kernel.defs₀ (F := F) .tc 1 a := rfl
theorem body_bag (c s a) : Cert.KernelIdeal.defs₀ (F := F) (.scVector c s) 2 a = Cert.Kernel.defs₀ (F := F) (.scVector c s) 2 a := rfl
theorem body_none (c : Fin 2) : ∀ l a, Cert.KernelIdeal.defs₀ (F := F) (.scScalar c) l a = Cert.Kernel.defs₀ (F := F) (.scScalar c) l a
  | 0, _ => rfl
  | 1, _ => rfl
  | 2, _ => rfl
theorem body_tc : ∀ l a, Cert.KernelIdeal.defs₀ (F := F) .tc l a = Cert.Kernel.defs₀ (F := F) .tc l a
  | 0, a => body_fold a
  | 1, a => body_proj a
  | 2, _ => rfl
theorem body_tile (c : Fin 2) (s : Fin 16) : ∀ l a, Cert.KernelIdeal.defs₀ (F := F) (.scVector c s) l a = Cert.Kernel.defs₀ (F := F) (.scVector c s) l a
  | 0, _ => rfl
  | 1, _ => rfl
  | 2, a => body_bag c s a

/-- The bodies of the two printed programs are the same. -/
theorem bodies_eq : Cert.KernelIdeal.defs₀ (F := F) = Cert.Kernel.defs₀ (F := F) := by
  funext p l a
  cases p with
  | tc => exact body_tc l a
  | scScalar c => exact body_none c l a
  | scVector c s => exact body_tile c s l a

end

set_option maxHeartbeats 2000000 in
theorem defs_eq {F : FTy → Type} [FloatOps F] : Cert.KernelIdeal.defs (F := F) = Cert.Kernel.defs (F := F) := by
  unfold Cert.KernelIdeal.defs Cert.Kernel.defs
  rw [bodies_eq]
  rfl

set_option maxHeartbeats 2000000 in
theorem threads_eq {F : FTy → Type} [FloatOps F] : Cert.KernelIdeal.threads (F := F) = Cert.Kernel.threads (F := F) := rfl

set_option maxHeartbeats 2000000 in
/-- The kernel at the bit instance leaves its arguments and its semaphores. -/
theorem frame_kernel : Cert.quiescent_Kernel := fun m ρ h =>
  Eq.mp (congrArg (fun D => θ_run D (Cert.KernelIdeal.threads (F := Bits)) ⟨m, fun _ => 0, ρ⟩ _) (defs_eq (F := Bits)))
    (frame_run (F := Bits) m ρ fun d y => inVocab_read _ _ _ _ _ _ _ _ (h d) y)

/-- The kernel at the ideal instance leaves its arguments and its semaphores. -/
theorem frame_ideal : Cert.quiescent_KernelIdeal := fun m ρ h =>
  frame_run (F := Ideal) m ρ fun d y => inVocab_read _ _ _ _ _ _ _ _ (h d) y

/-- The same under the value claim's precondition. -/
theorem frame_ideal_finite : Cert.quiescent_KernelIdeal_pre_in_vocab_finite := fun m ρ h =>
  frame_run (F := Ideal) m ρ fun d y => (good_of_pre _ _ _ _ _ _ _ _ (h d)).word y

/-- The reference leaves its arguments; it declares no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference_finite : Cert.quiescent_ReferenceIdeal_pre_in_vocab_finite := fun m ρ _ => frame_reference m ρ trivial

end Cert.Proof

end
-- ==== Proof.Sums.lean ====
/-
  The arithmetic of the value claim over the extended reals: folding the three linear layers into one row of weights
  and one offset, and spreading that offset over the fifty positions, changes no bag's sum. The table, the first two
  layers' weights and the first bias are real; the last two biases may be infinite.
-/
module

public import Idealize.ShloMosaic.PureOps.Ideal
public import Idealize.ShloMosaic.PureOps.Ideal.Laws

@[expose] public section

noncomputable section

namespace Cert.Proof

open Idealize.ShloMosaic

/-- A real factor distributes over a sum whose first term is real. -/
theorem add_mul_real (a c : ℝ) (b : EReal) : ((a : EReal) + b) * (c : EReal) = (a : EReal) * (c : EReal) + b * (c : EReal) := by
  rcases lt_trichotomy c 0 with hc | hc | hc
  · induction b with
    | bot => rw [EReal.add_bot, EReal.bot_mul_coe_of_neg hc, ← EReal.coe_mul, EReal.coe_add_top]
    | coe b => norm_cast; ring
    | top => rw [EReal.coe_add_top, EReal.top_mul_coe_of_neg hc, EReal.add_bot]
  · subst hc; simp
  · induction b with
    | bot => rw [EReal.add_bot, EReal.bot_mul_coe_of_pos hc, EReal.add_bot]
    | coe b => norm_cast; ring
    | top => rw [EReal.coe_add_top, EReal.top_mul_coe_of_pos hc, ← EReal.coe_mul, EReal.coe_add_top]

/-- Fifty fiftieths of a value are the value. -/
theorem fifty_fiftieths (x : EReal) : (50 : ℕ) • Ideal.div x ((50 : ℝ) : EReal) = x := by
  have h : Ideal.div x ((50 : ℝ) : EReal) = x * (((50 : ℝ)⁻¹ : ℝ) : EReal) := by
    unfold Ideal.div
    rw [if_neg (by exact_mod_cast (by norm_num : (50 : ℝ) ≠ 0)), EReal.coe_inv]
  rw [h, EReal.nsmul_eq_mul]
  induction x with
  | bot => rw [EReal.bot_mul_coe_of_pos (by norm_num)]; exact EReal.coe_mul_bot_of_pos (x := 50) (by norm_num)
  | coe x =>
    have e : ((50 : ℕ) : EReal) = ((50 : ℝ) : EReal) := by norm_cast
    rw [e]; norm_cast; field_simp
  | top => rw [EReal.top_mul_coe_of_pos (by norm_num)]; exact EReal.coe_mul_top_of_pos (x := 50) (by norm_num)

theorem coe_sum {ι : Type} (s : Finset ι) (f : ι → ℝ) : ∑ k ∈ s, (f k : EReal) = ((∑ k ∈ s, f k : ℝ) : EReal) :=
  (map_sum (⟨⟨fun r : ℝ => (r : EReal), rfl⟩, EReal.coe_add⟩ : ℝ →+ EReal) f s).symm

/-- The row of the fold: positions first, then the table's columns. -/
def flat (l : Fin 50) (e : Fin 64) : Fin 3200 := ⟨l.val * 64 + e.val, by omega⟩

theorem sum_flat (f : Fin 3200 → ℝ) : ∑ l : Fin 50, ∑ e : Fin 64, f (flat l e) = ∑ r : Fin 3200, f r := by
  rw [← Fintype.sum_prod_type' (f := fun l e => f (flat l e))]
  refine Fintype.sum_equiv (finProdFinEquiv (m := 50) (n := 64)) _ _ fun p => congrArg f (Fin.ext ?_)
  show p.1.val * 64 + p.2.val = p.2.val + 64 * p.1.val
  omega

/-- The fold over the reals. -/
theorem fold_real (x : Fin 3200 → ℝ) (W1 : Fin 3200 → Fin 32 → ℝ) (b1 : Fin 32 → ℝ) (W2 : Fin 32 → Fin 32 → ℝ) (W3 : Fin 32 → ℝ) :
    ∑ l : Fin 50, ∑ e : Fin 64, x (flat l e) * ∑ k, W1 (flat l e) k * ∑ n, W2 k n * W3 n
      = (∑ n, (∑ k, (∑ r, x r * W1 r k + b1 k) * W2 k n) * W3 n) - ∑ k, b1 k * ∑ n, W2 k n * W3 n := by
  have h1 : ∑ n, (∑ k, (∑ r, x r * W1 r k + b1 k) * W2 k n) * W3 n
      = ∑ k, (∑ r, x r * W1 r k + b1 k) * ∑ n, W2 k n * W3 n := by
    simp only [Finset.sum_mul, Finset.mul_sum]
    rw [Finset.sum_comm]
    exact Finset.sum_congr rfl fun k _ => Finset.sum_congr rfl fun n _ => by ring
  have h2 : ∑ r, x r * ∑ k, W1 r k * ∑ n, W2 k n * W3 n = ∑ k, (∑ r, x r * W1 r k) * ∑ n, W2 k n * W3 n := by
    rw [Finset.sum_congr rfl fun r _ => Finset.mul_sum Finset.univ (fun k => W1 r k * ∑ n, W2 k n * W3 n) (x r), Finset.sum_comm]
    exact Finset.sum_congr rfl fun k _ => by
      rw [Finset.sum_mul]; exact Finset.sum_congr rfl fun r _ => by ring
  rw [sum_flat (fun r => x r * ∑ k, W1 r k * ∑ n, W2 k n * W3 n), h1, h2, eq_sub_iff_add_eq, ← Finset.sum_add_distrib]
  exact Finset.sum_congr rfl fun k _ => by ring

/-- The fold over the extended reals, its offset divided among the fifty positions. -/
theorem fold_sum (x : Fin 3200 → ℝ) (W1 : Fin 3200 → Fin 32 → ℝ) (b1 : Fin 32 → ℝ) (W2 : Fin 32 → Fin 32 → ℝ) (W3 : Fin 32 → ℝ)
    (b2 : Fin 32 → EReal) (b3 : EReal) :
    ∑ l : Fin 50, ((∑ e : Fin 64, (x (flat l e) : EReal) * ∑ k, (W1 (flat l e) k : EReal) * ∑ n, (W2 k n : EReal) * (W3 n : EReal))
        + Ideal.div ((∑ k, (b1 k : EReal) * ∑ n, (W2 k n : EReal) * (W3 n : EReal)) + (∑ n, b2 n * (W3 n : EReal)) + b3) ((50 : ℝ) : EReal))
      = (∑ n, ((∑ k, ((∑ r, (x r : EReal) * (W1 r k : EReal)) + (b1 k : EReal)) * (W2 k n : EReal)) + b2 n) * (W3 n : EReal)) + b3 := by
  have hr := fold_real x W1 b1 W2 W3
  rw [Finset.sum_add_distrib, Finset.sum_const, Finset.card_univ, Fintype.card_fin, fifty_fiftieths]
  simp only [← EReal.coe_mul, coe_sum, ← EReal.coe_add, add_mul_real]
  rw [Finset.sum_add_distrib, coe_sum, hr, add_assoc (((_ : ℝ) : EReal)) _ b3, ← add_assoc, ← add_assoc, ← EReal.coe_add, sub_add_cancel]

end Cert.Proof

end
-- ==== Proof.Folded.lean ====
/-
  The kernel's result at the ideal instance, of its arguments: the folded weights, the projected table, the sum of one
  bag and its sigmoid.
-/
module

public import proofs.«01_k».proof.Proof.Words
public import proofs.«01_k».proof.Proof.Sums
public import Idealize.ShloMosaic.Lib.MatmulPlain
public import Idealize.ShloMosaic.Lib.KernelVsHost
public import Idealize.ShloMosaic.Lib.IdealHost
public import Idealize.ShloMosaic.Lib.ValueLayout
public import Idealize.ShloMosaic.Lib.Pipeline.Value
public import Idealize.ShloMosaic.Lib.Pipeline.ValueKit

@[expose] public section

set_option maxRecDepth 2048

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

open Idealize.ShloMosaic.TcCoe
open Idealize.ShloMosaic.Pipeline (Dat BodyObligation)

/-! ## The folded weights -/

/-- The second and third layers' weights, folded. -/
def w23 (W2 : FVec Ideal S32x32 .f32) (W3 : FVec Ideal S32x1 .f32) (k : Fin 32) : EReal :=
  ∑ n : Fin 32, W2 (ValueIdx.ix2 k n) * W3 (ValueIdx.ix2 n (0 : Fin 1))

/-- All three layers' weights, folded. -/
def w123 (W1 : FVec Ideal S3200x32 .f32) (W2 : FVec Ideal S32x32 .f32) (W3 : FVec Ideal S32x1 .f32) (r : Fin 3200) : EReal :=
  ∑ k : Fin 32, W1 (ValueIdx.ix2 r k) * w23 W2 W3 k

/-- A fiftieth of the folded offset. -/
def cOff (W2 : FVec Ideal S32x32 .f32) (W3 : FVec Ideal S32x1 .f32) (b1 b2 : FVec Ideal S32 .f32) (b3 : FVec Ideal S1 .f32) : EReal :=
  Ideal.div ((∑ k : Fin 32, b1 (ValueIdx.ix1 k) * w23 W2 W3 k) + (∑ n : Fin 32, b2 (ValueIdx.ix1 n) * W3 (ValueIdx.ix2 n (0 : Fin 1)))
    + b3 (ValueIdx.ix1 (0 : Fin 1))) ((50 : ℝ) : EReal)

theorem ofBits_fifty : Ideal.ofBits .f32 0x42480000#32 = ((50 : ℝ) : EReal) := by
  simp [Ideal.ofBits, Ideal.ieee, -EReal.coe_mul]; norm_num

theorem w23_apply (W2 : Vec Ideal S32x32 .f32) (W3 : Vec Ideal S32x1 .f32) (k : Fin 32) :
    k0_pay1 W2 W3 (ValueIdx.ix2 k (0 : Fin 1)) = w23 W2 W3 k :=
  (Ideal.matmul_plain_apply (M := 32) (K := 32) (N := 1) none W2 W3 (constant S32x1 .f32 0x00000000#32) k 0).trans (by
    show Ideal.ofBits .f32 0x00000000#32 + _ = _
    rw [Ideal.ofBits_zero_f32, zero_add]; rfl)

theorem foldV_apply (W1 : Vec Ideal S3200x32 .f32) (W2 : Vec Ideal S32x32 .f32) (W3 : Vec Ideal S32x1 .f32) (r : Fin 3200) :
    foldV W1 W2 W3 (ValueIdx.ix2 r (0 : Fin 1)) = w123 W1 W2 W3 r :=
  (Ideal.matmul_plain_apply (M := 3200) (K := 32) (N := 1) none W1 (k0_pay1 W2 W3) (constant S3200x1 .f32 0x00000000#32) r 0).trans (by
    show Ideal.ofBits .f32 0x00000000#32 + _ = _
    rw [Ideal.ofBits_zero_f32, zero_add]
    exact Finset.sum_congr rfl fun k _ => congrArg _ (w23_apply W2 W3 k))

theorem row_apply (b : FVec Ideal S32 .f32) (k : Fin 32) :
    shapeCast S1x32 b shapeCasts_S32_S1x32 (ValueIdx.ix2 (0 : Fin 1) k) = b (ValueIdx.ix1 k) :=
  shapeCast_apply _ _ _ _ (by rw [Shape.rowMajor_val_one, Shape.rowMajor_val_two]; show k.val = 0 * 32 + k.val; omega)

theorem one_apply (b : FVec Ideal S1 .f32) :
    shapeCast S1x1 b shapeCasts_S1_S1x1 (ValueIdx.ix2 (0 : Fin 1) (0 : Fin 1)) = b (ValueIdx.ix1 (0 : Fin 1)) :=
  shapeCast_apply _ _ _ _ (by rw [Shape.rowMajor_val_one, Shape.rowMajor_val_two]; rfl)

theorem rowProd (x : Vec Ideal S1x32 .f32) (y : Vec Ideal S32x1 .f32) :
    matmul (F := Ideal) (φ₁ := .f32) (φ₂ := .f32) dot_S1x32_S32x1_S1x1_1_0_0_1_n_n none (shapeCast S1x32 x shapeCasts_S1x32_S1x32) y (constant S1x1 .f32 0x00000000#32)
      (ValueIdx.ix2 (0 : Fin 1) (0 : Fin 1)) = ∑ k : Fin 32, x (ValueIdx.ix2 (0 : Fin 1) k) * y (ValueIdx.ix2 k (0 : Fin 1)) := by
  rw [shapeCast_self]
  exact (Ideal.matmul_plain_apply (M := 1) (K := 32) (N := 1) none x y (constant S1x1 .f32 0x00000000#32) 0 0).trans (by
    show Ideal.ofBits .f32 0x00000000#32 + _ = _
    rw [Ideal.ofBits_zero_f32, zero_add])

theorem foldC_apply (W2 : Vec Ideal S32x32 .f32) (W3 : Vec Ideal S32x1 .f32) (b1 b2 : FVec Ideal S32 .f32) (b3 : FVec Ideal S1 .f32) :
    foldC W2 W3 (shapeCast S1x32 b1 shapeCasts_S32_S1x32) (shapeCast S1x32 b2 shapeCasts_S32_S1x32) (shapeCast S1x1 b3 shapeCasts_S1_S1x1)
      (ValueIdx.ix2 (0 : Fin 1) (0 : Fin 1)) = cOff W2 W3 b1 b2 b3 := by
  have e1 := rowProd (shapeCast S1x32 b1 shapeCasts_S32_S1x32) (k0_pay1 W2 W3)
  have e2 := rowProd (shapeCast S1x32 b2 shapeCasts_S32_S1x32) W3
  have e3 : shapeCast S1x1 (shapeCast S1x1 b3 shapeCasts_S1_S1x1) shapeCasts_S1x1_S1x1 (ValueIdx.ix2 (0 : Fin 1) (0 : Fin 1)) = b3 (ValueIdx.ix1 (0 : Fin 1)) := by
    rw [shapeCast_self]; exact one_apply b3
  unfold cOff
  rw [← ofBits_fifty, ← e3]
  refine congrArg (fun z => Ideal.div (z + _) _) (congrArg₂ (· + ·) (e1.trans ?_) (e2.trans ?_))
  · exact Finset.sum_congr rfl fun k _ => congrArg₂ (· * ·) (row_apply b1 k) (w23_apply W2 W3 k)
  · exact Finset.sum_congr rfl fun k _ => congrArg (· * _) (row_apply b2 k)

/-- Column `l` of the projection's right operand, for a position: the folded row's part there. -/
theorem vmat_apply (v : Vec Ideal S3200x1 .f32) (l : Fin 50) (e : Fin 64) :
    vmat v (ValueIdx.ix2 e (⟨l.val, by omega⟩ : Fin 64)) = v (ValueIdx.ix2 (flat l e) (0 : Fin 1)) := by
  unfold vmat
  refine (pad_apply_of_inside _ _ _ _ _ pads_S64x50_S64x64_000_0140 h_S_ _ (ValueIdx.ix2 e l) ?_).trans ?_
  · intro a; fin_cases a
    · show e.val = 0 + e.val * 1; omega
    · show l.val = 0 + l.val * 1; omega
  refine (ValueIdx.transpose_ix2_apply _ transposes_S50x64_S64x50_1_0 e l).trans ?_
  refine shapeCast_apply _ _ _ _ ?_
  rw [Shape.rowMajor_val_two, Shape.rowMajor_val_two]
  show (l.val * 64 + e.val) * 1 + 0 = l.val * 64 + e.val
  omega

/-! ## The projected table -/

theorem projRow_apply (Y : Vec Ideal S1x2000x64 .f32) (X0 : Vec Ideal S64x64 .f32) (X1 : Vec Ideal S1x1 .f32) (r : Fin 2000) (q : Fin 64) :
    projRow Y X0 X1 (ValueIdx.ix3 (0 : Fin 1) r q)
      = (∑ e : Fin 64, Y (ValueIdx.ix3 (0 : Fin 1) r e) * X0 (ValueIdx.ix2 e q)) + X1 (ValueIdx.ix2 (0 : Fin 1) (0 : Fin 1)) := by
  unfold projRow k1_pay1
  refine (shapeCast_apply _ shapeCasts_S2000x64_S1x2000x64 (ValueIdx.ix3 (0 : Fin 1) r q) (ValueIdx.ix2 r q) ?_).trans ?_
  · rw [Shape.rowMajor_val_two, Shape.rowMajor_val_three]
    show r.val * 64 + q.val = (0 * 2000 + r.val) * 64 + q.val
    omega
  refine congrArg₂ (· + ·) ?_ ?_
  · rw [shapeCast_self]
    refine (Ideal.matmul_plain_apply (M := 2000) (K := 64) (N := 64) none _ X0 (constant S2000x64 .f32 0x00000000#32) r q).trans ?_
    show Ideal.ofBits .f32 0x00000000#32 + _ = _
    rw [Ideal.ofBits_zero_f32, zero_add]
    exact Finset.sum_congr rfl fun e _ => congrArg (· * _) (ValueIdx.shapeCast_1ab_ab_apply Y shapeCasts_S1x2000x64_S2000x64 r e)
  · rw [shapeCast_self]
    refine congrArg X1 (funext fun a => ?_)
    fin_cases a <;> rfl

theorem projArr_apply (X0 : Vec Ideal S64x64 .f32) (X1 : Vec Ideal S1x1 .f32) (A : Vec Ideal S10x10000x64 .f32) (k : Fin 10) (r : Fin 10000) (q : Fin 64) :
    projArr X0 X1 A (ValueIdx.ix3 k r q)
      = (∑ e : Fin 64, A (ValueIdx.ix3 k r e) * X0 (ValueIdx.ix2 e q)) + X1 (ValueIdx.ix2 (0 : Fin 1) (0 : Fin 1)) := by
  refine (projRow_apply (rowsOf A k (r.val / 2000)) X0 X1 (⟨r.val % 2000, Nat.mod_lt _ (by decide)⟩ : Fin 2000) q).trans ?_
  refine congrArg (· + _) (Finset.sum_congr rfl fun e _ => congrArg (· * _) ?_)
  show A (ValueIdx.ix3 k _ e) = _
  refine congrArg (fun z => A (ValueIdx.ix3 k z e)) (Fin.ext ?_)
  show (r.val / 2000 * 2000 + r.val % 2000) % 10000 = r.val
  omega

/-- Word `row · 64 + l` of the flat projected table. -/
theorem flatTable_apply (X0 : Vec Ideal S64x64 .f32) (X1 : Vec Ideal S1x1 .f32) (T : FVec Ideal S100000x64 .f32) (n : ℕ) (hn : n < 100000) (l : Fin 50) :
    wordAt (shapeCast S6400000 (projArr X0 X1 (shapeCast S10x10000x64 T shapeCasts_S100000x64_S10x10000x64)) shapeCasts_S10x10000x64_S6400000) (n * 64 + l.val)
      = (∑ e : Fin 64, T (ValueIdx.ix2 (⟨n, hn⟩ : Fin 100000) e) * X0 (ValueIdx.ix2 e (⟨l.val, by omega⟩ : Fin 64)))
        + X1 (ValueIdx.ix2 (0 : Fin 1) (0 : Fin 1)) := by
  unfold wordAt
  refine (shapeCast_apply _ shapeCasts_S10x10000x64_S6400000 _ (ValueIdx.ix3 (⟨n / 10000, by omega⟩ : Fin 10) (⟨n % 10000, Nat.mod_lt _ (by decide)⟩ : Fin 10000)
    (⟨l.val, by omega⟩ : Fin 64)) ?_).trans ?_
  · rw [Shape.rowMajor_val_one, Shape.rowMajor_val_three]
    show (n / 10000 * 10000 + n % 10000) * 64 + l.val = (n * 64 + l.val) % 6400000
    have hl := l.isLt
    omega
  refine (projArr_apply _ _ _ _ _ _).trans (congrArg (· + _) (Finset.sum_congr rfl fun e _ => congrArg (· * _) ?_))
  refine shapeCast_apply _ _ _ _ ?_
  rw [Shape.rowMajor_val_two, Shape.rowMajor_val_three]
  show n * 64 + e.val = (n / 10000 * 10000 + n % 10000) * 64 + e.val
  omega

/-! ## One bag -/

theorem sumUpTo_eq (g : ℕ → Ideal .f32) : ∀ n : ℕ, sumUpTo g n = ∑ l ∈ Finset.range (n + 1), (g l : EReal)
  | 0 => by rw [Finset.sum_range_one]; rfl
  | n + 1 => by rw [Finset.sum_range_succ, ← sumUpTo_eq g n]; rfl

/-- The sum a bag's result is the sigmoid of. -/
def bagSum (a : IVec S4096x50 32) (T : FVec Ideal S100000x64 .f32) (W1 : FVec Ideal S3200x32 .f32) (b1 : FVec Ideal S32 .f32) (W2 : FVec Ideal S32x32 .f32)
    (b2 : FVec Ideal S32 .f32) (W3 : FVec Ideal S32x1 .f32) (b3 : FVec Ideal S1 .f32) (ha : ∀ y, (a y).toNat < 100000) (i : Fin 4096) : EReal :=
  ∑ l : Fin 50, ((∑ e : Fin 64, T (ValueIdx.ix2 (⟨(a (ValueIdx.ix2 i l)).toNat, ha _⟩ : Fin 100000) e) * w123 W1 W2 W3 (flat l e)) + cOff W2 W3 b1 b2 b3)

/-- The SparseCore call's result, of the program's arguments. -/
theorem bagOut_apply (a : IVec S4096x50 32) (T : FVec Ideal S100000x64 .f32) (W1 : FVec Ideal S3200x32 .f32) (b1 : FVec Ideal S32 .f32) (W2 : FVec Ideal S32x32 .f32)
    (b2 : FVec Ideal S32 .f32) (W3 : FVec Ideal S32x1 .f32) (b3 : FVec Ideal S1 .f32) (ha : ∀ y, (a y).toNat < 100000) (i : Fin 4096) :
    bagOut (F := Ideal) (fidx a) (shapeCast S6400000 (projArr (F := Ideal) (vmat (F := Ideal) (foldV (F := Ideal) W1 W2 W3)) (foldC (F := Ideal) W2 W3 (shapeCast S1x32 b1 shapeCasts_S32_S1x32)
        (shapeCast S1x32 b2 shapeCasts_S32_S1x32) (shapeCast S1x1 b3 shapeCasts_S1_S1x1))
        (shapeCast S10x10000x64 T shapeCasts_S100000x64_S10x10000x64)) shapeCasts_S10x10000x64_S6400000) (ValueIdx.ix1 i)
      = Ideal.logistic (bagSum a T W1 b1 W2 b2 W3 b3 ha i) := by
  refine Eq.trans (b := sig1 (F := Ideal) (bagSum a T W1 b1 W2 b2 W3 b3 ha i)) (congrArg sig1 ((sumUpTo_eq _ 49).trans ?_)) ?_
  · rw [Finset.sum_range]
    refine Finset.sum_congr rfl fun l _ => ?_
    have hw : idxWord (fidx a) (⟨i.val / 128, by omega⟩ : Fin 32) l.val (⟨i.val % 128, Nat.mod_lt _ (by decide)⟩ : Fin 128)
        = (a (ValueIdx.ix2 i l)).toNat * 64 + l.val := by
      unfold idxWord
      have el : (⟨l.val % 50, Nat.mod_lt _ (by decide)⟩ : Fin 50) = l := Fin.ext (Nat.mod_eq_of_lt l.isLt)
      rw [el, fidx_toNat a ha]
      have ei : (⟨i.val / 128 * 128 + i.val % 128, by omega⟩ : Fin 4096) = i := Fin.ext (by show i.val / 128 * 128 + i.val % 128 = i.val; omega)
      rw [ei]
    refine (congrArg (wordAt _) hw).trans ((flatTable_apply _ _ _ _ (ha _) l).trans ?_)
    rw [foldC_apply]
    refine congrArg (· + _) (Finset.sum_congr rfl fun e _ => congrArg (_ * ·) ?_)
    exact (vmat_apply _ l e).trans (foldV_apply W1 W2 W3 _)
  · unfold sig1 Ideal.logistic
    have h1 : (Scalar.ofBits .f32 0x3F800000#32 : Ideal .f32) = (1 : EReal) := Ideal.ofBits_one_f32
    have h2 : (FloatOps.subf (Scalar.ofBits .f32 0x00000000#32) (bagSum a T W1 b1 W2 b2 W3 b3 ha i : Ideal .f32) : Ideal .f32)
        = (-(bagSum a T W1 b1 W2 b2 W3 b3 ha i) : EReal) := Ideal.subf_zero_eq_hostNegf _
    rw [h1, h2]
    rfl

end Cert.Proof

end
-- ==== Proof.Reference.lean ====
/-
  The reference's result at the ideal instance, of its arguments: its composed term read at one bag. In range, an
  index is not wrapped, passes the range test and is not clamped, so the rows taken are the table's rows of the
  indices; the three layers and the sigmoid are read as plain sums.
-/
module

public import proofs.«01_k».proof.Proof.Sums
public import proofs.«01_k».proof.Proof.Gen.ReferenceIdeal
public import Idealize.ShloMosaic.Lib.ReduceAll
public import Idealize.ShloMosaic.Lib.WordCmp
public import Idealize.ShloMosaic.Lib.ValueLayout
public import Idealize.ShloMosaic.Lib.ValueIdx
public import Idealize.ShloMosaic.Lib.StackMember
public import Idealize.ShloMosaic.Lib.KernelVsHost
public import Idealize.ShloMosaic.Lib.IdealHost

@[expose] public section

set_option maxRecDepth 2048

noncomputable section

namespace Cert.Proof.Ref

open Cert.ReferenceIdeal Cert.ReferenceIdeal.Gen
open Idealize.ShloMosaic
open Idealize.ShloMosaic.StackMember (dotGeneral_plain_apply)

/-! ## The rows taken -/

/-- The indices, a negative one moved up by the table's height. -/
abbrev wrapped (a : IVec S4096x50 32) : IVec S4096x50 32 :=
  select (cmpi .slt a (broadcastInDim S4096x50 ![] bcast_S_S4096x50 (constantI S_ 32 0#32)))
    (addi a (broadcastInDim S4096x50 ![] bcast_S_S4096x50 (constantI S_ 32 100000#32))) a

/-- The gather's start indices. -/
abbrev starts (a : IVec S4096x50 32) : IVec S4096x50x1 32 :=
  broadcastInDim S4096x50x1 ![0, 1] bcast_S4096x50_S4096x50x1_0_1 (wrapped a)

/-- Whether a start index names a row of the table. -/
abbrev inRange (a : IVec S4096x50 32) : IVec S4096x50x1 1 :=
  andi (cmpi .sge (starts a) (broadcastInDim S4096x50x1 ![] bcast_S_S4096x50x1 (constantI S_ 32 0#32)))
    (cmpi .sle (starts a) (broadcastInDim S4096x50x1 ![0, 1, 2] bcast_S1x1x1_S4096x50x1_0_1_2
      (broadcastInDim S1x1x1 ![2] bcast_S1_S1x1x1_2 (constantI S1 32 99999#32))))

/-- The rows taken, one out of range replaced by the fill. -/
def taken (a : IVec S4096x50 32) (T : FVec Ideal S100000x64 .f32) : FVec Ideal S4096x50x64 .f32 :=
  select (broadcastInDim S4096x50x64 ![0, 1] bcast_S4096x50_S4096x50x64_0_1
      (Host.reduce IntOp.andi (inRange a) (constantI S_ 1 1#1) reducesTo_S4096x50x1_S4096x50_d2 h_S_))
    (Host.gather gather_S100000x64_S4096x50x1_S4096x50x64_2_0_n_n_0_2_164 T (starts a))
    (broadcastInDim S4096x50x64 ![] bcast_S_S4096x50x64 (constant S_ .f32 0x7FC00000#32))

theorem wrapped_eq (a : IVec S4096x50 32) (ha : ∀ y, (a y).toNat < 100000) : wrapped a = a := by
  funext y
  have h := ha y
  show (if IntOp.cmpi .slt (a y) 0#32 = 1 then _ else a y) = a y
  rw [if_neg]
  rw [WordCmp.cmpi_slt_of_lt (by omega) (by decide)]
  simp

theorem starts_apply (a : IVec S4096x50 32) (ha : ∀ y, (a y).toNat < 100000) (i : Fin 4096) (l : Fin 50) (z : Fin 1) :
    starts a (ValueIdx.ix3 i l z) = a (ValueIdx.ix2 i l) := by
  unfold starts
  rw [wrapped_eq a ha]
  refine broadcastInDim_apply _ _ _ _ _ fun x => ?_
  fin_cases x <;> rfl

theorem inRange_apply (a : IVec S4096x50 32) (ha : ∀ y, (a y).toNat < 100000) (y : S4096x50x1.Idx) : inRange a y = 1#1 := by
  have e : y = ValueIdx.ix3 (y 0) (y 1) (y 2) := by funext x; fin_cases x <;> rfl
  have h := ha (ValueIdx.ix2 (y 0) (y 1))
  have hs := (congrArg (starts a) e).trans (starts_apply a ha (y 0) (y 1) (y 2))
  refine IntOp.andi_eq_one.2 ⟨?_, ?_⟩
  · show IntOp.cmpi .sge (starts a y) 0#32 = 1#1
    rw [hs, WordCmp.cmpi_sge_of_lt (by omega) (by decide), WordCmp.ofBool_decide_eq_one_iff]
    simp
  · show IntOp.cmpi .sle (starts a y) 99999#32 = 1#1
    rw [hs, WordCmp.cmpi_sle_of_lt (by omega) (by decide), WordCmp.ofBool_decide_eq_one_iff]
    show _ ≤ 99999
    omega

/-- The gather read at one element: the row its start index names, clamped into the table. -/
theorem gather_apply (T : FVec Ideal S100000x64 .f32) (idx : IVec S4096x50x1 32) (i : Fin 4096) (l : Fin 50) (e : Fin 64) :
    Host.gather gather_S100000x64_S4096x50x1_S4096x50x64_2_0_n_n_0_2_164 T idx (ValueIdx.ix3 i l e)
      = T (ValueIdx.ix2 (⟨min (idx (ValueIdx.ix3 i l (0 : Fin 1))).toInt.toNat 99999, by omega⟩ : Fin 100000) e) := by
  unfold Host.gather
  refine congrArg T (funext fun x => Fin.ext ?_)
  let d := gather_S100000x64_S4096x50x1_S4096x50x64_2_0_n_n_0_2_164
  let y : S4096x50x64.Idx := ValueIdx.ix3 i l e
  show d.start y idx x + d.batchCoord y x + d.offCoord y x = _
  rw [GatherDims.batchCoord_eq_zero _ _ _ List.not_mem_nil]
  have hx : x = 0 ∨ x = 1 := by
    match x with
    | ⟨0, _⟩ => exact Or.inl rfl
    | ⟨1, _⟩ => exact Or.inr rfl
  rcases hx with rfl | rfl
  · rw [GatherDims.offCoord_eq_zero _ _ _ (fun h => ((GatherDims.mem_sKept _ _).mp h).1 (List.mem_singleton.mpr rfl))]
    unfold GatherDims.start
    have h0 : (0 : Fin 2) ∈ d.startIndexMap := List.mem_singleton.mpr rfl
    rw [dif_pos h0]
    have hsi : d.siIdx y ⟨List.idxOf (0 : Fin 2) d.startIndexMap, List.idxOf_lt_length_iff.2 h0⟩ = ValueIdx.ix3 i l (0 : Fin 1) := by
      funext b; refine Fin.ext ?_
      match b with
      | ⟨0, _⟩ => rfl
      | ⟨1, _⟩ => rfl
      | ⟨2, _⟩ => rfl
    rw [hsi]
    rfl
  · have h1 : (1 : Fin 2) ∉ d.startIndexMap := fun h => absurd (List.mem_singleton.mp h) (by decide)
    have h2 : (1 : Fin 2) ∈ d.sKept := (GatherDims.mem_sKept _ _).mpr
      ⟨fun h => absurd (List.mem_singleton.mp h) (by decide), List.not_mem_nil⟩
    unfold GatherDims.start GatherDims.offCoord
    rw [dif_neg h1, dif_pos h2]
    exact (Nat.zero_add _).trans rfl

theorem taken_apply (a : IVec S4096x50 32) (ha : ∀ y, (a y).toNat < 100000) (T : FVec Ideal S100000x64 .f32) (i : Fin 4096) (l : Fin 50) (e : Fin 64) :
    taken a T (ValueIdx.ix3 i l e) = T (ValueIdx.ix2 (⟨(a (ValueIdx.ix2 i l)).toNat, ha _⟩ : Fin 100000) e) := by
  have hm : broadcastInDim S4096x50x64 ![0, 1] bcast_S4096x50_S4096x50x64_0_1
      (Host.reduce IntOp.andi (inRange a) (constantI S_ 1 1#1) reducesTo_S4096x50x1_S4096x50_d2 h_S_) (ValueIdx.ix3 i l e) = 1#1 :=
    Host.reduce_andi_one _ _ _ _ _ rfl (inRange_apply a ha)
  have h := ha (ValueIdx.ix2 i l)
  unfold taken
  rw [ValueIdx.select_apply, hm, WordCmp.select_one, gather_apply]
  refine congrArg (fun z => T (ValueIdx.ix2 z e)) (Fin.ext ?_)
  show min (starts a _).toInt.toNat 99999 = _
  rw [starts_apply a ha, WordCmp.toInt_eq_toNat_of_lt_half (by omega)]
  exact Nat.min_eq_left (by omega)

/-! ## The layers -/

/-- The rows taken, one bag's in a row. -/
def layer0 (a : IVec S4096x50 32) (T : FVec Ideal S100000x64 .f32) : FVec Ideal S4096x3200 .f32 :=
  shapeCast S4096x3200 (taken a T) shapeCasts_S4096x50x64_S4096x3200

def layer1 (X : FVec Ideal S4096x3200 .f32) (W1 : FVec Ideal S3200x32 .f32) (b1 : FVec Ideal S32 .f32) : FVec Ideal S4096x32 .f32 :=
  addf (Host.dotGeneral dot_S4096x3200_S3200x32_S4096x32_1_0_0_1_n_n none X W1)
    (broadcastInDim S4096x32 ![0, 1] bcast_S1x32_S4096x32_0_1 (broadcastInDim S1x32 ![1] bcast_S32_S1x32_1 b1))

def layer2 (X : FVec Ideal S4096x32 .f32) (W2 : FVec Ideal S32x32 .f32) (b2 : FVec Ideal S32 .f32) : FVec Ideal S4096x32 .f32 :=
  addf (Host.dotGeneral dot_S4096x32_S32x32_S4096x32_1_0_0_1_n_n none X W2)
    (broadcastInDim S4096x32 ![0, 1] bcast_S1x32_S4096x32_0_1 (broadcastInDim S1x32 ![1] bcast_S32_S1x32_1 b2))

def layer3 (X : FVec Ideal S4096x32 .f32) (W3 : FVec Ideal S32x1 .f32) (b3 : FVec Ideal S1 .f32) : FVec Ideal S4096x1 .f32 :=
  addf (Host.dotGeneral dot_S4096x32_S32x1_S4096x1_1_0_0_1_n_n none X W3)
    (broadcastInDim S4096x1 ![0, 1] bcast_S1x1_S4096x1_0_1 (broadcastInDim S1x1 ![1] bcast_S1_S1x1_1 b3))

/-- The reference's composed term. -/
def result (a : IVec S4096x50 32) (T : FVec Ideal S100000x64 .f32) (W1 : FVec Ideal S3200x32 .f32) (b1 : FVec Ideal S32 .f32)
    (W2 : FVec Ideal S32x32 .f32) (b2 : FVec Ideal S32 .f32) (W3 : FVec Ideal S32x1 .f32) (b3 : FVec Ideal S1 .f32) : FVec Ideal S4096x1 .f32 :=
  Host.divf (broadcastInDim S4096x1 ![] bcast_S_S4096x1 (constant S_ .f32 0x3F800000#32))
    (addf (broadcastInDim S4096x1 ![] bcast_S_S4096x1 (constant S_ .f32 0x3F800000#32))
      (Host.exp (Host.negf (layer3 (layer2 (layer1 (layer0 a T) W1 b1) W2 b2) W3 b3))))

theorem layer0_apply (a : IVec S4096x50 32) (ha : ∀ y, (a y).toNat < 100000) (T : FVec Ideal S100000x64 .f32) (i : Fin 4096) (l : Fin 50) (e : Fin 64) :
    layer0 a T (ValueIdx.ix2 i (flat l e)) = T (ValueIdx.ix2 (⟨(a (ValueIdx.ix2 i l)).toNat, ha _⟩ : Fin 100000) e) := by
  refine (shapeCast_apply _ shapeCasts_S4096x50x64_S4096x3200 _ (ValueIdx.ix3 i l e) ?_).trans (taken_apply a ha T i l e)
  rw [Shape.rowMajor_val_two, Shape.rowMajor_val_three]
  show (i.val * 50 + l.val) * 64 + e.val = i.val * 3200 + (l.val * 64 + e.val)
  omega

theorem bias_apply (b : FVec Ideal S32 .f32) (i : Fin 4096) (k : Fin 32) :
    broadcastInDim S4096x32 ![0, 1] bcast_S1x32_S4096x32_0_1 (broadcastInDim S1x32 ![1] bcast_S32_S1x32_1 b) (ValueIdx.ix2 i k) = b (ValueIdx.ix1 k) := by
  refine (broadcastInDim_apply _ _ _ _ (ValueIdx.ix2 (0 : Fin 1) k) fun x => ?_).trans (broadcastInDim_apply _ _ _ _ _ fun x => ?_)
  · fin_cases x <;> rfl
  · fin_cases x <;> rfl

theorem lastBias_apply (b : FVec Ideal S1 .f32) (i : Fin 4096) :
    broadcastInDim S4096x1 ![0, 1] bcast_S1x1_S4096x1_0_1 (broadcastInDim S1x1 ![1] bcast_S1_S1x1_1 b) (ValueIdx.ix2 i (0 : Fin 1)) = b (ValueIdx.ix1 (0 : Fin 1)) := by
  refine (broadcastInDim_apply _ _ _ _ (ValueIdx.ix2 (0 : Fin 1) (0 : Fin 1)) fun x => ?_).trans (broadcastInDim_apply _ _ _ _ _ fun x => ?_)
  · fin_cases x <;> rfl
  · fin_cases x <;> rfl

theorem layer1_apply (X : FVec Ideal S4096x3200 .f32) (W1 : FVec Ideal S3200x32 .f32) (b1 : FVec Ideal S32 .f32) (i : Fin 4096) (k : Fin 32) :
    layer1 X W1 b1 (ValueIdx.ix2 i k) = (∑ r : Fin 3200, X (ValueIdx.ix2 i r) * W1 (ValueIdx.ix2 r k)) + b1 (ValueIdx.ix1 k) :=
  congrArg₂ (· + ·) (dotGeneral_plain_apply (m := 4096) (k := 3200) (n := 32) none X W1 i k) (bias_apply b1 i k)

theorem layer2_apply (X : FVec Ideal S4096x32 .f32) (W2 : FVec Ideal S32x32 .f32) (b2 : FVec Ideal S32 .f32) (i : Fin 4096) (n : Fin 32) :
    layer2 X W2 b2 (ValueIdx.ix2 i n) = (∑ k : Fin 32, X (ValueIdx.ix2 i k) * W2 (ValueIdx.ix2 k n)) + b2 (ValueIdx.ix1 n) :=
  congrArg₂ (· + ·) (dotGeneral_plain_apply (m := 4096) (k := 32) (n := 32) none X W2 i n) (bias_apply b2 i n)

theorem layer3_apply (X : FVec Ideal S4096x32 .f32) (W3 : FVec Ideal S32x1 .f32) (b3 : FVec Ideal S1 .f32) (i : Fin 4096) :
    layer3 X W3 b3 (ValueIdx.ix2 i (0 : Fin 1)) = (∑ n : Fin 32, X (ValueIdx.ix2 i n) * W3 (ValueIdx.ix2 n (0 : Fin 1))) + b3 (ValueIdx.ix1 (0 : Fin 1)) :=
  congrArg₂ (· + ·) (dotGeneral_plain_apply (m := 4096) (k := 32) (n := 1) none X W3 i 0) (lastBias_apply b3 i)

theorem sigmoid_apply (X : FVec Ideal S4096x1 .f32) (y : S4096x1.Idx) :
    Host.divf (broadcastInDim S4096x1 ![] bcast_S_S4096x1 (constant S_ .f32 0x3F800000#32))
      (addf (broadcastInDim S4096x1 ![] bcast_S_S4096x1 (constant S_ .f32 0x3F800000#32)) (Host.exp (Host.negf X))) y
      = Ideal.logistic (X y) := by
  show Ideal.div (Ideal.ofBits .f32 0x3F800000#32) (Ideal.ofBits .f32 0x3F800000#32 + Ideal.exp (-(X y : EReal))) = _
  rw [Ideal.ofBits_one_f32]
  rfl

theorem result_apply (a : IVec S4096x50 32) (T : FVec Ideal S100000x64 .f32) (W1 : FVec Ideal S3200x32 .f32) (b1 : FVec Ideal S32 .f32)
    (W2 : FVec Ideal S32x32 .f32) (b2 : FVec Ideal S32 .f32) (W3 : FVec Ideal S32x1 .f32) (b3 : FVec Ideal S1 .f32) (i : Fin 4096) :
    result a T W1 b1 W2 b2 W3 b3 (ValueIdx.ix2 i (0 : Fin 1))
      = Ideal.logistic ((∑ n : Fin 32, ((∑ k : Fin 32, ((∑ r : Fin 3200, layer0 a T (ValueIdx.ix2 i r) * W1 (ValueIdx.ix2 r k)) + b1 (ValueIdx.ix1 k))
          * W2 (ValueIdx.ix2 k n)) + b2 (ValueIdx.ix1 n)) * W3 (ValueIdx.ix2 n (0 : Fin 1))) + b3 (ValueIdx.ix1 (0 : Fin 1))) := by
  have e : layer3 (layer2 (layer1 (layer0 a T) W1 b1) W2 b2) W3 b3 (ValueIdx.ix2 i (0 : Fin 1))
      = (∑ n : Fin 32, ((∑ k : Fin 32, ((∑ r : Fin 3200, layer0 a T (ValueIdx.ix2 i r) * W1 (ValueIdx.ix2 r k)) + b1 (ValueIdx.ix1 k))
          * W2 (ValueIdx.ix2 k n)) + b2 (ValueIdx.ix1 n)) * W3 (ValueIdx.ix2 n (0 : Fin 1))) + b3 (ValueIdx.ix1 (0 : Fin 1)) := by
    simp only [layer3_apply, layer2_apply, layer1_apply]
  unfold result
  rw [sigmoid_apply, e]

end Cert.Proof.Ref

end
-- ==== Proof.Algebraic.lean ====
/-
  The value claim: at the ideal instance the kernel's result is the reference's, for indices naming rows of the table
  and a real table, first-layer weights and offset, and second- and third-layer weights.
-/
module

public import proofs.«01_k».proof.Proof.Frames
public import proofs.«01_k».proof.Proof.Folded
public import proofs.«01_k».proof.Proof.Reference

@[expose] public section

set_option maxRecDepth 2048

noncomputable section

namespace Cert.Proof

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

open Idealize.ShloMosaic.TcCoe
open Idealize.ShloMosaic.Pipeline (Dat BodyObligation)

/-! ## The two results -/

/-- The sum a bag's result is the sigmoid of is the reference's three layers at that bag. -/
theorem bagSum_eq (a : IVec S4096x50 32) (T : FVec Ideal S100000x64 .f32) (W1 : FVec Ideal S3200x32 .f32) (b1 : FVec Ideal S32 .f32) (W2 : FVec Ideal S32x32 .f32)
    (b2 : FVec Ideal S32 .f32) (W3 : FVec Ideal S32x1 .f32) (b3 : FVec Ideal S1 .f32) (h : Good a T W1 b1 W2 W3) (i : Fin 4096) :
    bagSum a T W1 b1 W2 b2 W3 b3 h.word i
      = (∑ n : Fin 32, ((∑ k : Fin 32, ((∑ r : Fin 3200, Ref.layer0 a T (ValueIdx.ix2 i r) * W1 (ValueIdx.ix2 r k)) + b1 (ValueIdx.ix1 k))
          * W2 (ValueIdx.ix2 k n)) + b2 (ValueIdx.ix1 n)) * W3 (ValueIdx.ix2 n (0 : Fin 1))) + b3 (ValueIdx.ix1 (0 : Fin 1)) := by
  have hx : ∀ r : Fin 3200, ∃ x : ℝ, Ref.layer0 a T (ValueIdx.ix2 i r) = (x : EReal) := by
    intro r
    have e : r = flat (⟨r.val / 64, by omega⟩ : Fin 50) (⟨r.val % 64, Nat.mod_lt _ (by decide)⟩ : Fin 64) :=
      Fin.ext (by show r.val = r.val / 64 * 64 + r.val % 64; omega)
    rw [e, Ref.layer0_apply a h.word]
    exact h.f1 _
  have hT : ∀ (l : Fin 50) (e : Fin 64), T (ValueIdx.ix2 (⟨(a (ValueIdx.ix2 i l)).toNat, h.word _⟩ : Fin 100000) e)
      = Ref.layer0 a T (ValueIdx.ix2 i (flat l e)) := fun l e => (Ref.layer0_apply a h.word T i l e).symm
  choose x ex using hx
  choose w1 e1 using h.f2
  choose c1 ec1 using h.f3
  choose w2 e2 using h.f4
  choose w3 e3 using h.f6
  unfold bagSum cOff w123 w23
  simp only [hT, ex, e1, ec1, e2, e3]
  exact fold_sum x (fun r k => w1 (ValueIdx.ix2 r k)) (fun k => c1 (ValueIdx.ix1 k)) (fun k n => w2 (ValueIdx.ix2 k n))
    (fun n => w3 (ValueIdx.ix2 n (0 : Fin 1))) (fun n => b2 (ValueIdx.ix1 n)) (b3 (ValueIdx.ix1 (0 : Fin 1)))

/-- The kernel's result of the arguments is the reference's. -/
theorem value_eq (a : IVec S4096x50 32) (T : FVec Ideal S100000x64 .f32) (W1 : FVec Ideal S3200x32 .f32) (b1 : FVec Ideal S32 .f32) (W2 : FVec Ideal S32x32 .f32)
    (b2 : FVec Ideal S32 .f32) (W3 : FVec Ideal S32x1 .f32) (b3 : FVec Ideal S1 .f32) (h : Good a T W1 b1 W2 W3) :
    shapeCast S4096x1 (bagOut (F := Ideal) (fidx a) (shapeCast S6400000 (projArr (F := Ideal) (vmat (F := Ideal) (foldV (F := Ideal) W1 W2 W3))
        (foldC (F := Ideal) W2 W3 (shapeCast S1x32 b1 shapeCasts_S32_S1x32)
        (shapeCast S1x32 b2 shapeCasts_S32_S1x32) (shapeCast S1x1 b3 shapeCasts_S1_S1x1))
        (shapeCast S10x10000x64 T shapeCasts_S100000x64_S10x10000x64)) shapeCasts_S10x10000x64_S6400000)) shapeCasts_S4096_S4096x1
      = Ref.result a T W1 b1 W2 b2 W3 b3 := by
  funext y
  obtain ⟨i, rfl⟩ : ∃ i : Fin 4096, y = ValueIdx.ix2 i (0 : Fin 1) :=
    ⟨y 0, funext fun x => by
      match x with
      | ⟨0, _⟩ => rfl
      | ⟨1, _⟩ => exact Subsingleton.elim (α := Fin 1) _ _⟩
  rw [Ref.result_apply, ← bagSum_eq a T W1 b1 W2 b2 W3 b3 h i]
  refine (shapeCast_apply _ shapeCasts_S4096_S4096x1 _ (ValueIdx.ix1 i) ?_).trans (bagOut_apply a T W1 b1 W2 b2 W3 b3 h.word i)
  rw [Shape.rowMajor_val_one, Shape.rowMajor_val_two]
  show i.val = i.val * 1 + 0
  omega

/-! ## The value claim -/

/-- What the kernel's run leaves in the result. -/
theorem kernel_value (m : (ℓ : Loc nD τ sig) → Buf (Elt Ideal) ℓ) (d : Dev nD) :
    V7 m d (Proc.devRef .tc main_v19) = shapeCast S4096x1 (bagOut (F := Ideal) (fidx (m ((SparseCore.T d).loc main_arg0)))
      (shapeCast S6400000 (projArr (F := Ideal) (vmat (F := Ideal) (veff m d)) (coff m d)
        (shapeCast S10x10000x64 (m ((SparseCore.T d).loc main_arg1)) shapeCasts_S100000x64_S10x10000x64))
        shapeCasts_S10x10000x64_S6400000)) shapeCasts_S4096_S4096x1 := by
  rw [V7_v19, fi_eq, fp_eq]

theorem algebraic : Cert.algebraic_KernelIdeal_ReferenceIdeal_pre_in_vocab_finite := fun m g m' g' hpre hargs => by
  have good := fun d => good_of_pre _ _ _ _ _ _ _ _ (hpre d)
  refine ⟨fun c => Ref.result (m ((SparseCore.T c).loc main_arg0)) (m ((SparseCore.T c).loc main_arg1)) (m ((SparseCore.T c).loc main_arg2))
    (m ((SparseCore.T c).loc main_arg3)) (m ((SparseCore.T c).loc main_arg4)) (m ((SparseCore.T c).loc main_arg5)) (m ((SparseCore.T c).loc main_arg6))
    (m ((SparseCore.T c).loc main_arg7)), ?_, ?_⟩
  · exact (θ_run _ _ _).mono (fun r hr c => ⟨((hr.1 c _ (mem_ucRefs main_v19 (by rfl))).trans (kernel_value m c)).trans
      (value_eq _ _ _ _ _ _ _ _ (good c)), kept m r hr c⟩) (run_main m g (fi_inTable m fun d y => (good d).word y))
  · refine (θ_run (Cert.ReferenceIdeal.defs (F := Ideal)) _ _).mono (fun r h c => ⟨(h c).1.trans ?_, (h c).2⟩)
      (Cert.ReferenceIdeal.Value.run (F := Ideal) m' g')
    obtain ⟨h0, h1, h2, h3, h4, h5, h6, h7⟩ := hargs c
    rw [h0, h1, h2, h3, h4, h5, h6, h7]
    rfl

end Cert.Proof

end
-- ==== Proof.lean ====
/-
  The proof of `Cert.Claim` (Defs.lean): the frames of the kernel at both instances and of the reference, the kernel's
  text kept by the idealization, and the equality of the two results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.Gen.Pre_in_vocab_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_vocab.Gen.facts, Cert.Pre_in_vocab_finite.Gen.facts,
  frame_kernel, frame_ideal, frame_ideal_finite, frame_reference, frame_reference_finite, trivial, algebraic⟩

end Cert.Proof

end
